-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codebook_below_infinity [hPre_codebook_below_infinity : Cert.Pre_codebook_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_codebook_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codebook_below_infinity [hPre_codebook_below_infinity : Cert.Pre_codebook_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codebook_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_codebook_below_infinity [hKernelIdeal : Cert.KernelIdeal.Facts] [hPre_codebook_below_infinity : Cert.Pre_codebook_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codebook_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_codebook_below_infinity [hReferenceIdeal : Cert.ReferenceIdeal.Facts] [hPre_codebook_below_infinity : Cert.Pre_codebook_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codebook_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_codebook_below_infinity [hKernelIdeal : Cert.KernelIdeal.Facts] [hReferenceIdeal : Cert.ReferenceIdeal.Facts] [hPre_codebook_below_infinity : Cert.Pre_codebook_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codebook_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_codebook_below_infinity : Cert.Pre_codebook_below_infinity.Facts),
    quiescent_Kernel (hKernel := hKernel)
    ∧ quiescent_KernelIdeal (hKernelIdeal := hKernelIdeal)
    ∧ quiescent_KernelIdeal_pre_codebook_below_infinity (hKernelIdeal := hKernelIdeal) (hPre_codebook_below_infinity := hPre_codebook_below_infinity)
    ∧ quiescent_ReferenceIdeal (hReferenceIdeal := hReferenceIdeal)
    ∧ quiescent_ReferenceIdeal_pre_codebook_below_infinity (hReferenceIdeal := hReferenceIdeal) (hPre_codebook_below_infinity := hPre_codebook_below_infinity)
    ∧ preserves_Kernel_KernelIdeal
    ∧ algebraic_KernelIdeal_ReferenceIdeal_pre_codebook_below_infinity (hKernelIdeal := hKernelIdeal) (hReferenceIdeal := hReferenceIdeal) (hPre_codebook_below_infinity := hPre_codebook_below_infinity)
-- ==== Pre_codebook_below_infinity.lean ====
abbrev S32x1024x64 : Shape := ⟨3, ![32, 1024, 64]⟩
abbrev S1x1024x64 : Shape := ⟨3, ![1, 1024, 64]⟩
abbrev S_ : Shape := ⟨0, ![]⟩

class Facts : Prop where
  bcast_S_S1x1024x64 : S_.BroadcastsInDim S1x1024x64 (![] : Fin 0 → Fin S1x1024x64.rank)

variable [Facts]

def fn {F : FTy → Type} [FloatOps F] (main_arg0 : FVec F S32x1024x64 .f32) (main_arg1 : FVec F S1x1024x64 .f32) : IVec S1x1024x64 1 :=
  let main_cst : FVec F S_ .f32 := constant S_ .f32 0x7F800000#32
  let main_v0 : FVec F S1x1024x64 .f32 := broadcastInDim S1x1024x64 ![] bcast_S_S1x1024x64 main_cst
  let main_v1 : IVec S1x1024x64 1 := cmpf .olt main_arg1 main_v0
  main_v1
-- ==== Kernel.lean ====
abbrev S32x1024x64 : Shape := ⟨3, ![32, 1024, 64]⟩
abbrev S1x1024x64 : Shape := ⟨3, ![1, 1024, 64]⟩
abbrev S1024x64 : Shape := ⟨2, ![1024, 64]⟩
abbrev S32x1024 : Shape := ⟨2, ![32, 1024]⟩
abbrev S8x1024x64 : Shape := ⟨3, ![8, 1024, 64]⟩
abbrev S8x1024 : Shape := ⟨2, ![8, 1024]⟩
abbrev S1024x128 : Shape := ⟨2, ![1024, 128]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S1 : Shape := ⟨1, ![1]⟩
abbrev S1x1 : Shape := ⟨2, ![1, 1]⟩

abbrev nBuf : Space → Nat
  | .hbm => 5
  | .vmem => 10
  | .smem => 0
  | _ => 0

abbrev bufTy : (tb : Table) → Fin (tcTables nBuf tb) → BufTy
  | .hbm, ⟨0, _⟩ => ⟨S32x1024x64, .f32⟩
  | .hbm, ⟨1, _⟩ => ⟨S1x1024x64, .f32⟩
  | .hbm, ⟨2, _⟩ => ⟨S1024x64, .f32⟩
  | .hbm, ⟨3, _⟩ => ⟨S32x1024, .i32⟩
  | .hbm, ⟨4, _⟩ => ⟨S32x1024x64, .f32⟩
  | .local _ .vmem, ⟨0, _⟩ => ⟨S8x1024x64, .f32⟩
  | .local _ .vmem, ⟨1, _⟩ => ⟨S8x1024x64, .f32⟩
  | .local _ .vmem, ⟨2, _⟩ => ⟨S1024x64, .f32⟩
  | .local _ .vmem, ⟨3, _⟩ => ⟨S8x1024, .i32⟩
  | .local _ .vmem, ⟨4, _⟩ => ⟨S8x1024, .i32⟩
  | .local _ .vmem, ⟨5, _⟩ => ⟨S8x1024x64, .f32⟩
  | .local _ .vmem, ⟨6, _⟩ => ⟨S8x1024x64, .f32⟩
  | .local _ .vmem, ⟨7, _⟩ => ⟨S1024x64, .f32⟩
  | .local _ .vmem, ⟨8, _⟩ => ⟨S1024x128, .f32⟩
  | .local _ .vmem, ⟨9, _⟩ => ⟨S1024x64, .f32⟩
  | _, _ => ⟨S32x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_off1 (k0_t1 : Fin k0_t1_loop.trips) : Fin 3 → Nat :=
  let c2_i32 : BitVec 32 := 2#32
  let c0_i32_1 : BitVec 32 := 0#32
  let c1_i32 : BitVec 32 := 1#32
  let arg8 : BitVec 32 := Scf.iv c0_i32_1 c1_i32 k0_t1
  let v4 : BitVec 32 := Scalar.muli c2_i32 arg8
  let v5 : Index := Scalar.indexCast v4
  let c0 : Index := 0#32
  let c0_3 : Index := 0#32
  ![v5.toNat, 0, 0]
def k0_off2 (k0_t1 : Fin k0_t1_loop.trips) : Fin 3 → Nat :=
  let c2_i32_17 : BitVec 32 := 2#32
  let c0_i32_1 : BitVec 32 := 0#32
  let c1_i32 : BitVec 32 := 1#32
  let arg8 : BitVec 32 := Scf.iv c0_i32_1 c1_i32 k0_t1
  let v29 : BitVec 32 := Scalar.muli c2_i32_17 arg8
  let c1_i32_18 : BitVec 32 := 1#32
  let v30 : BitVec 32 := Scalar.addi v29 c1_i32_18
  let v31 : Index := Scalar.indexCast v30
  let c0_19 : Index := 0#32
  let c0_20 : Index := 0#32
  ![v31.toNat, 0, 0]
def k0_off3 (k0_t1 : Fin k0_t1_loop.trips) : Fin 2 → Nat :=
  let c2_i32_35 : BitVec 32 := 2#32
  let c0_i32_1 : BitVec 32 := 0#32
  let c1_i32 : BitVec 32 := 1#32
  let arg8 : BitVec 32 := Scf.iv c0_i32_1 c1_i32 k0_t1
  let v55 : BitVec 32 := Scalar.muli c2_i32_35 arg8
  let v92 : Index := Scalar.indexCast v55
  let c0_47 : Index := 0#32
  ![v92.toNat, 0]
def k0_off4 (k0_t1 : Fin k0_t1_loop.trips) : Fin 3 → Nat :=
  let c2_i32_35 : BitVec 32 := 2#32
  let c0_i32_1 : BitVec 32 := 0#32
  let c1_i32 : BitVec 32 := 1#32
  let arg8 : BitVec 32 := Scf.iv c0_i32_1 c1_i32 k0_t1
  let v55 : BitVec 32 := Scalar.muli c2_i32_35 arg8
  let v96 : Index := Scalar.indexCast v55
  let c0_48 : Index := 0#32
  let c0_49 : Index := 0#32
  ![v96.toNat, 0, 0]
def k0_off5 (k0_t1 : Fin k0_t1_loop.trips) : Fin 2 → Nat :=
  let c2_i32_35 : BitVec 32 := 2#32
  let c0_i32_1 : BitVec 32 := 0#32
  let c1_i32 : BitVec 32 := 1#32
  let arg8 : BitVec 32 := Scf.iv c0_i32_1 c1_i32 k0_t1
  let v55 : BitVec 32 := Scalar.muli c2_i32_35 arg8
  let v97 : Index := Scalar.indexCast v55
  let c0_51 : Index := 0#32
  ![v97.toNat, 0]
def k0_off6 (k0_t1 : Fin k0_t1_loop.trips) : Fin 3 → Nat :=
  let c2_i32_35 : BitVec 32 := 2#32
  let c0_i32_1 : BitVec 32 := 0#32
  let c1_i32 : BitVec 32 := 1#32
  let arg8 : BitVec 32 := Scf.iv c0_i32_1 c1_i32 k0_t1
  let v55 : BitVec 32 := Scalar.muli c2_i32_35 arg8
  let v99 : Index := Scalar.indexCast v55
  let c0_52 : Index := 0#32
  let c0_53 : Index := 0#32
  ![v99.toNat, 0, 0]
def k0_off7 (k0_t1 : Fin k0_t1_loop.trips) : Fin 2 → Nat :=
  let c2_i32_40 : BitVec 32 := 2#32
  let c0_i32_1 : BitVec 32 := 0#32
  let c1_i32 : BitVec 32 := 1#32
  let arg8 : BitVec 32 := Scf.iv c0_i32_1 c1_i32 k0_t1
  let v68 : BitVec 32 := Scalar.muli c2_i32_40 arg8
  let c1_i32_41 : BitVec 32 := 1#32
  let v69 : BitVec 32 := Scalar.addi v68 c1_i32_41
  let v92 : Index := Scalar.indexCast v69
  let c0_47 : Index := 0#32
  ![v92.toNat, 0]
def k0_off8 (k0_t1 : Fin k0_t1_loop.trips) : Fin 3 → Nat :=
  let c2_i32_40 : BitVec 32 := 2#32
  let c0_i32_1 : BitVec 32 := 0#32
  let c1_i32 : BitVec 32 := 1#32
  let arg8 : BitVec 32 := Scf.iv c0_i32_1 c1_i32 k0_t1
  let v68 : BitVec 32 := Scalar.muli c2_i32_40 arg8
  let c1_i32_41 : BitVec 32 := 1#32
  let v69 : BitVec 32 := Scalar.addi v68 c1_i32_41
  let v96 : Index := Scalar.indexCast v69
  let c0_48 : Index := 0#32
  let c0_49 : Index := 0#32
  ![v96.toNat, 0, 0]
def k0_off9 (k0_t1 : Fin k0_t1_loop.trips) : Fin 2 → Nat :=
  let c2_i32_40 : BitVec 32 := 2#32
  let c0_i32_1 : BitVec 32 := 0#32
  let c1_i32 : BitVec 32 := 1#32
  let arg8 : BitVec 32 := Scf.iv c0_i32_1 c1_i32 k0_t1
  let v68 : BitVec 32 := Scalar.muli c2_i32_40 arg8
  let c1_i32_41 : BitVec 32 := 1#32
  let v69 : BitVec 32 := Scalar.addi v68 c1_i32_41
  let v97 : Index := Scalar.indexCast v69
  let c0_51 : Index := 0#32
  ![v97.toNat, 0]
def k0_off10 (k0_t1 : Fin k0_t1_loop.trips) : Fin 3 → Nat :=
  let c2_i32_40 : BitVec 32 := 2#32
  let c0_i32_1 : BitVec 32 := 0#32
  let c1_i32 : BitVec 32 := 1#32
  let arg8 : BitVec 32 := Scf.iv c0_i32_1 c1_i32 k0_t1
  let v68 : BitVec 32 := Scalar.muli c2_i32_40 arg8
  let c1_i32_41 : BitVec 32 := 1#32
  let v69 : BitVec 32 := Scalar.addi v68 c1_i32_41
  let v99 : Index := Scalar.indexCast v69
  let c0_52 : Index := 0#32
  let c0_53 : Index := 0#32
  ![v99.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x1024x64 : Shape := ⟨3, ![32, 1024, 64]⟩
abbrev S1x1024x64 : Shape := ⟨3, ![1, 1024, 64]⟩
abbrev S1x32x1024x64 : Shape := ⟨4, ![1, 32, 1024, 64]⟩
abbrev S1x32768x64 : Shape := ⟨3, ![1, 32768, 64]⟩
abbrev S_ : Shape := ⟨0, ![]⟩
abbrev S1x32768 : Shape := ⟨2, ![1, 32768]⟩
abbrev S1x32768x1 : Shape := ⟨3, ![1, 32768, 1]⟩
abbrev S1x1024 : Shape := ⟨2, ![1, 1024]⟩
abbrev S1x1024x1 : Shape := ⟨3, ![1, 1024, 1]⟩
abbrev S1x32768x1024 : Shape := ⟨3, ![1, 32768, 1024]⟩
abbrev S1x32x1024 : Shape := ⟨3, ![1, 32, 1024]⟩
abbrev S1024x64 : Shape := ⟨2, ![1024, 64]⟩
abbrev S32x1024 : Shape := ⟨2, ![32, 1024]⟩
abbrev S32x1024x1 : Shape := ⟨3, ![32, 1024, 1]⟩
abbrev S1 : Shape := ⟨1, ![1]⟩
abbrev S1x1x1 : Shape := ⟨3, ![1, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S32x1024x64, .f32⟩
  | .hbm, ⟨1, _⟩ => ⟨S1x1024x64, .f32⟩
  | .hbm, ⟨2, _⟩ => ⟨S1x32x1024x64, .f32⟩
  | .hbm, ⟨3, _⟩ => ⟨S1x32768x64, .f32⟩
  | .hbm, ⟨4, _⟩ => ⟨S1x32768x64, .f32⟩
  | .hbm, ⟨5, _⟩ => ⟨S_, .f32⟩
  | .hbm, ⟨6, _⟩ => ⟨S1x32768, .f32⟩
  | .hbm, ⟨7, _⟩ => ⟨S1x32768x1, .f32⟩
  | .hbm, ⟨8, _⟩ => ⟨S1x32768x1, .f32⟩
  | .hbm, ⟨9, _⟩ => ⟨S_, .f32⟩
  | .hbm, ⟨10, _⟩ => ⟨S_, .f32⟩
  | .hbm, ⟨11, _⟩ => ⟨S1x32768x1, .f32⟩
  | .hbm, ⟨12, _⟩ => ⟨S1x32768x1, .f32⟩
  | .hbm, ⟨13, _⟩ => ⟨S1x32768x64, .f32⟩
  | .hbm, ⟨14, _⟩ => ⟨S1x32768x64, .f32⟩
  | .hbm, ⟨15, _⟩ => ⟨S1x1024x64, .f32⟩
  | .hbm, ⟨16, _⟩ => ⟨S_, .f32⟩
  | .hbm, ⟨17, _⟩ => ⟨S1x1024, .f32⟩
  | .hbm, ⟨18, _⟩ => ⟨S1x1024x1, .f32⟩
  | .hbm, ⟨19, _⟩ => ⟨S1x1024x1, .f32⟩
  | .hbm, ⟨20, _⟩ => ⟨S_, .f32⟩
  | .hbm, ⟨21, _⟩ => ⟨S_, .f32⟩
  | .hbm, ⟨22, _⟩ => ⟨S1x1024x1, .f32⟩
  | .hbm, ⟨23, _⟩ => ⟨S1x1024x1, .f32⟩
  | .hbm, ⟨24, _⟩ => ⟨S1x1024x64, .f32⟩
  | .hbm, ⟨25, _⟩ => ⟨S1x1024x64, .f32⟩
  | .hbm, ⟨26, _⟩ => ⟨S1x32768x1024, .f32⟩
  | .hbm, ⟨27, _⟩ => ⟨S1x32768x1024, .i32⟩
  | .hbm, ⟨28, _⟩ => ⟨S_, .f32⟩
  | .hbm, ⟨29, _⟩ => ⟨S_, .i32⟩
  | .hbm, ⟨30, _⟩ => ⟨S1x32768, .f32⟩
  | .hbm, ⟨31, _⟩ => ⟨S1x32768, .i32⟩
  | .hbm, ⟨32, _⟩ => ⟨S1x32x1024, .i32⟩
  | .hbm, ⟨33, _⟩ => ⟨S1024x64, .f32⟩
  | .hbm, ⟨34, _⟩ => ⟨S32x1024, .i32⟩
  | .hbm, ⟨35, _⟩ => ⟨S_, .i32⟩
  | .hbm, ⟨36, _⟩ => ⟨S32x1024, .i32⟩
  | .hbm, ⟨37, _⟩ => ⟨S32x1024, .i1⟩
  | .hbm, ⟨38, _⟩ => ⟨S_, .i32⟩
  | .hbm, ⟨39, _⟩ => ⟨S32x1024, .i32⟩
  | .hbm, ⟨40, _⟩ => ⟨S32x1024, .i32⟩
  | .hbm, ⟨41, _⟩ => ⟨S32x1024, .i32⟩
  | .hbm, ⟨42, _⟩ => ⟨S32x1024x1, .i32⟩
  | .hbm, ⟨43, _⟩ => ⟨S1, .i32⟩
  | .hbm, ⟨44, _⟩ => ⟨S_, .i32⟩
  | .hbm, ⟨45, _⟩ => ⟨S32x1024x1, .i32⟩
  | .hbm, ⟨46, _⟩ => ⟨S32x1024x1, .i1⟩
  | .hbm, ⟨47, _⟩ => ⟨S1x1x1, .i32⟩
  | .hbm, ⟨48, _⟩ => ⟨S32x1024x1, .i32⟩
  | .hbm, ⟨49, _⟩ => ⟨S32x1024x1, .i1⟩
  | .hbm, ⟨50, _⟩ => ⟨S32x1024x1, .i1⟩
  | .hbm, ⟨51, _⟩ => ⟨S_, .i1⟩
  | .hbm, ⟨52, _⟩ => ⟨S32x1024, .i1⟩
  | .hbm, ⟨53, _⟩ => ⟨S32x1024x64, .f32⟩
  | .hbm, ⟨54, _⟩ => ⟨S32x1024x64, .i1⟩
  | .hbm, ⟨55, _⟩ => ⟨S_, .f32⟩
  | .hbm, ⟨56, _⟩ => ⟨S32x1024x64, .f32⟩
  | .hbm, ⟨57, _⟩ => ⟨S32x1024x64, .f32⟩
  | .hbm, ⟨58, _⟩ => ⟨S32x1024, .i32⟩
  | _, _ => ⟨S32x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_call1_v0 : Ref sig .tc := ⟨.hbm, 10, rfl⟩
abbrev main_call1_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call2_v0 : Ref sig .tc := ⟨.hbm, 15, rfl⟩
abbrev main_call2_cst : Ref sig .tc := ⟨.hbm, 16, rfl⟩
abbrev main_call2_v1 : Ref sig .tc := ⟨.hbm, 17, rfl⟩
abbrev main_call2_v2 : Ref sig .tc := ⟨.hbm, 18, rfl⟩
abbrev main_v6 : Ref sig .tc := ⟨.hbm, 19, rfl⟩
abbrev main_cst_0 : Ref sig .tc := ⟨.hbm, 20, rfl⟩
abbrev main_call3_v0 : Ref sig .tc := ⟨.hbm, 21, rfl⟩
abbrev main_call3_v1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call4_v0 : Ref sig .tc := ⟨.hbm, 27, rfl⟩
abbrev main_call4_cst : Ref sig .tc := ⟨.hbm, 28, rfl⟩
abbrev main_call4_c : Ref sig .tc := ⟨.hbm, 29, rfl⟩
abbrev main_call4_v1_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_call5_c : Ref sig .tc := ⟨.hbm, 35, rfl⟩
abbrev main_call5_v0 : Ref sig .tc := ⟨.hbm, 36, rfl⟩
abbrev main_call5_v1 : Ref sig .tc := ⟨.hbm, 37, rfl⟩
abbrev main_call5_c_0 : Ref sig .tc := ⟨.hbm, 38, rfl⟩
abbrev main_call5_v2 : Ref sig .tc := ⟨.hbm, 39, rfl⟩
abbrev main_call5_v3 : Ref sig .tc := ⟨.hbm, 40, rfl⟩
abbrev main_call5_v4 : Ref sig .tc := ⟨.hbm, 41, rfl⟩
abbrev main_call5_v5 : Ref sig .tc := ⟨.hbm, 42, rfl⟩
abbrev main_call5_c_1 : Ref sig .tc := ⟨.hbm, 43, rfl⟩
abbrev main_call5_c_2 : Ref sig .tc := ⟨.hbm, 44, rfl⟩
abbrev main_call5_v6 : Ref sig .tc := ⟨.hbm, 45, rfl⟩
abbrev main_call5_v7 : Ref sig .tc := ⟨.hbm, 46, rfl⟩
abbrev main_call5_v8 : Ref sig .tc := ⟨.hbm, 47, rfl⟩
abbrev main_call5_v9 : Ref sig .tc := ⟨.hbm, 48, rfl⟩
abbrev main_call5_v10 : Ref sig .tc := ⟨.hbm, 49, rfl⟩
abbrev main_call5_v11 : Ref sig .tc := ⟨.hbm, 50, rfl⟩
abbrev main_call5_c_3 : Ref sig .tc := ⟨.hbm, 51, rfl⟩
abbrev main_call5_v12 : Ref sig .tc := ⟨.hbm, 52, rfl⟩
abbrev main_call5_v13 : Ref sig .tc := ⟨.hbm, 53, rfl⟩
abbrev main_call5_v14 : Ref sig .tc := ⟨.hbm, 54, rfl⟩
abbrev main_call5_cst : Ref sig .tc := ⟨.hbm, 55, rfl⟩
abbrev main_call5_v15 : Ref sig .tc := ⟨.hbm, 56, rfl⟩
abbrev main_v15 : Ref sig .tc := ⟨.hbm, 57, rfl⟩
abbrev main_v16 : Ref sig .tc := ⟨.hbm, 58, rfl⟩

abbrev nD : Nat := 1
abbrev τ : Topo := Topo.v7x

variable {F : FTy → Type} [FloatOps F]
-- ==== Proof.Tile.lean ====
/-
  What the kernel computes of one grid block, as functions of the block's contents alone, at any float values: the three
  tables the first point prepares from the codebook, and, per 1024-row tile of the block, the codes and the selected rows.
-/
module

public import proofs.«01_k».proof.Proof.Gen.KernelIdeal.Skeleton
public import Idealize.ShloMosaic.Lib.VecWindow
public import Idealize.ShloMosaic.Lib.WritesUnit
public import Idealize.ShloMosaic.Lib.WholeRead
public import Idealize.ShloMosaic.Lib.ValueIdxCoords

@[expose] public section

set_option maxRecDepth 16384

noncomputable section

namespace Cert.Proof.Vq

open Idealize.ShloMosaic Idealize.ShloMosaic.TcCoe
open Cert.KernelIdeal Cert.KernelIdeal.Gen

variable {F : FTy → Type} [FloatOps F]

/-! ## The tables -/

/-- The codebook with each row divided by its clipped length. -/
def unitTable (e : Vec F S1024x64 .f32) : Vec F S1024x64 .f32 := k0_pay9 e

/-- The codebook's leading part beside each row's number split in two digits and a one. -/
def leadTable (e : Vec F S1024x64 .f32) : Vec F S1024x128 .f32 :=
  k0_pay1 (k0_pay10 e) (iota .tc S1024x64 32 [1] iota_S1024x64_d1_w32) (iota .tc S1024x64 32 [0] iota_S1024x64_d0_w32) k0_pay11 32#32 (Scalar.cmpi .eq 32#32 0#32) 1#32

/-- What the leading part leaves of the codebook. -/
def restTable (e : Vec F S1024x64 .f32) : Vec F S1024x64 .f32 := k0_pay2 (k0_pay8 e) (k0_pay10 e)

/-! ## One tile -/

/-- Whether some row of the tile attains its maximum more than once: the largest count, against one and a half. -/
def tie (xr : Vec F S1x1024x64 .f32) (en : Vec F S1024x64 .f32) (w1 : Vec F S1024x128 .f32) : BitVec 1 :=
  Scalar.cmpf .ogt (k0_pay24 (k0_pay15 xr en w1)) (Scalar.ofBits .f32 0x3FC00000#32)

/-- The tile's codes: with a tie the least position of the maximum, without one the number its two digits spell. -/
def codeTile (xr : Vec F S1x1024x64 .f32) (en : Vec F S1024x64 .f32) (w1 : Vec F S1024x128 .f32) : Vec F S1x1024 .i32 :=
  if tie xr en w1 = 1#1 then k0_pay28 (k0_pay12 xr en) (k0_pay13 xr en) else k0_pay25 (k0_pay15 xr en w1)

/-- The tile's selected rows: with a tie read off the codebook, without one off the two parts and added. -/
def rowTile (xr : Vec F S1x1024x64 .f32) (e en : Vec F S1024x64 .f32) (w1 : Vec F S1024x128 .f32) (w2 : Vec F S1024x64 .f32) :
    Vec F S1x1024x64 .f32 :=
  if tie xr en w1 = 1#1 then k0_pay29 (k0_pay12 xr en) (k0_pay13 xr en) e else k0_pay26 (k0_pay15 xr en w1) (k0_pay16 xr en w2)

/-! ## The block -/

/-- Tile `r` of a block. -/
def slab (x : Vec F S8x1024x64 .f32) (r : Fin 8) : Vec F S1x1024x64 .f32 := fun j => x (ValueIdx.ix3 r (j 1) (j 2))

/-- The block's codes, tile by tile. -/
def codeBlock (x : Vec F S8x1024x64 .f32) (en : Vec F S1024x64 .f32) (w1 : Vec F S1024x128 .f32) : Vec F S8x1024 .i32 :=
  fun j => codeTile (slab x (j 0)) en w1 (ValueIdx.ix2 0 (j 1))

/-- The block's selected rows, tile by tile. -/
def rowBlock (x : Vec F S8x1024x64 .f32) (e en : Vec F S1024x64 .f32) (w1 : Vec F S1024x128 .f32) (w2 : Vec F S1024x64 .f32) :
    Vec F S8x1024x64 .f32 :=
  fun j => rowTile (slab x (j 0)) e en w1 w2 (ValueIdx.ix3 0 (j 1) (j 2))

/-! ## Windows of one tile -/

/-- The window at tile `r` reads that tile. -/
theorem window_slab (x : Vec F S8x1024x64 .f32) (r : Fin 8) (h) :
    VecWindow.window x ![r.val, 0, 0] S1x1024x64.size h = slab x r := by
  funext j
  refine congrArg x (funext fun a => Fin.ext ?_)
  have h0 : (j 0).val = 0 := by have := (j 0).isLt; change (j 0).val < 1 at this; omega
  match a with
  | ⟨0, _⟩ => show r.val + 1 * (j 0).val = r.val; omega
  | ⟨1, _⟩ => show 0 + 1 * (j 1).val = (j 1).val; omega
  | ⟨2, _⟩ => show 0 + 1 * (j 2).val = (j 2).val; omega

/-- A tile put over row `r` of a block of codes: that row reads it, the others what was there. -/
theorem put_codes (d : Vec F S8x1024 .i32) (r : ℕ) (w : Vec F S1x1024 .i32) (j : S8x1024.Idx) :
    VecWindow.put d ![r, 0] S1x1024.size w j = if (j 0).val = r then w (ValueIdx.ix2 0 (j 1)) else d j := by
  unfold VecWindow.put
  by_cases h : (j 0).val = r
  · rw [if_pos h, dif_pos (fun a => ?_)]
    · refine congrArg w (funext fun a => Fin.ext ?_)
      match a with
      | ⟨0, _⟩ => show (j 0).val - r = 0; omega
      | ⟨1, _⟩ => show (j 1).val - 0 = (j 1).val; omega
    · match a with
      | ⟨0, _⟩ => show r ≤ (j 0).val ∧ (j 0).val < r + 1; omega
      | ⟨1, _⟩ => exact ⟨Nat.zero_le _, by show (j 1).val < 0 + 1024; have : (j 1).val < 1024 := (j 1).isLt; omega⟩
  · rw [if_neg h, dif_neg (fun hall => h ?_)]
    have := hall 0
    change r ≤ (j 0).val ∧ (j 0).val < r + 1 at this
    omega

/-- A tile put over row `r` of a block of rows: that row reads it, the others what was there. -/
theorem put_rows (d : Vec F S8x1024x64 .f32) (r : ℕ) (w : Vec F S1x1024x64 .f32) (j : S8x1024x64.Idx) :
    VecWindow.put d ![r, 0, 0] S1x1024x64.size w j = if (j 0).val = r then w (ValueIdx.ix3 0 (j 1) (j 2)) else d j := by
  unfold VecWindow.put
  by_cases h : (j 0).val = r
  · rw [if_pos h, dif_pos (fun a => ?_)]
    · refine congrArg w (funext fun a => Fin.ext ?_)
      match a with
      | ⟨0, _⟩ => show (j 0).val - r = 0; omega
      | ⟨1, _⟩ => show (j 1).val - 0 = (j 1).val; omega
      | ⟨2, _⟩ => show (j 2).val - 0 = (j 2).val; omega
    · match a with
      | ⟨0, _⟩ => show r ≤ (j 0).val ∧ (j 0).val < r + 1; omega
      | ⟨1, _⟩ => exact ⟨Nat.zero_le _, by show (j 1).val < 0 + 1024; have : (j 1).val < 1024 := (j 1).isLt; omega⟩
      | ⟨2, _⟩ => exact ⟨Nat.zero_le _, by show (j 2).val < 0 + 64; have : (j 2).val < 64 := (j 2).isLt; omega⟩
  · rw [if_neg h, dif_neg (fun hall => h ?_)]
    have := hall 0
    change r ≤ (j 0).val ∧ (j 0).val < r + 1 at this
    omega

/-! ## The two guarded stores of one tile -/

/-- The bit's complement, widened and compared with zero, is the bit's failing. -/
theorem not_bit (t : BitVec 1) : Scalar.cmpi .ne (Scalar.extui (Scalar.xori t 1#1)) 0#32 = 1#1 ↔ ¬ t = 1#1 := by
  revert t; decide

/-- The bit, widened and compared with zero, is the bit. -/
theorem bit (t : BitVec 1) : Scalar.cmpi .ne (Scalar.extui t) 0#32 = 1#1 ↔ t = 1#1 := by
  revert t; decide

/-- One store under a bit's complement and one under the bit, at the same rectangle: one put of the payload the bit names. -/
theorem read_two_stores {sig : RefSig} {κ : Kind} {sp : Space} {s : Shape} {e : EltTy} {Val : EltTy → Type} (v : View sig κ sp s e)
    (f : v.ty.Contents Val) (t : BitVec 1) {off off' size : Fin s.rank → ℕ} (o : Fin s.rank → ℕ)
    (inb : ∀ a, off a + size a ≤ s.size a) (inb' : ∀ a, off' a + size a ≤ s.size a)
    (w : (Rect.unit off size inb).shape.Idx → Val e) (w' : (Rect.unit off' size inb').shape.Idx → Val e) (h : off = o) (h' : off' = o) :
    v.read Val
      (if hc : Scalar.cmpi .ne (Scalar.extui t) 0#32 = 1#1 then
        v.writes Val (if hc : Scalar.cmpi .ne (Scalar.extui (Scalar.xori t 1#1)) 0#32 = 1#1 then
          v.writes Val f [⟨Rect.unit off size inb, w⟩] else f) [⟨Rect.unit off' size inb', w'⟩]
      else if hc : Scalar.cmpi .ne (Scalar.extui (Scalar.xori t 1#1)) 0#32 = 1#1 then
          v.writes Val f [⟨Rect.unit off size inb, w⟩] else f)
      = VecWindow.put (v.read Val f) o size (if t = 1#1 then w' else w) := by
  by_cases ht : t = 1#1
  · rw [dif_pos ((bit t).mpr ht), dif_neg (fun h => (not_bit t).mp h ht), View.read_writes_cons_put v f inb' w' [] h',
      View.writes_nil, if_pos ht]
  · rw [dif_neg (fun h => ht ((bit t).mp h)), dif_pos ((not_bit t).mpr ht), View.read_writes_cons_put v f inb w [] h,
      View.writes_nil, if_neg ht]

end Cert.Proof.Vq

end
-- ==== Proof.Trip.lean ====
/-
  One trip of the kernel's loop, and the loop's invariant: before trip `k` the first `2k` tiles of the two output
  blocks hold what `codeBlock` and `rowBlock` say of the inputs' blocks and the three tables, which the loop only reads.
-/
module

public import proofs.«01_k».proof.Proof.Tile
public import proofs.«01_k».proof.Proof.Gen.KernelIdeal.Loops
public import proofs.«01_k».proof.Proof.Gen.KernelIdeal.Frame

@[expose] public section

set_option maxRecDepth 16384

noncomputable section

namespace Cert.Proof.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid0.Coords) (arg1 : Memref sig .tc .vmem S8x1024x64 .f32) (harg1 : arg1.IsWhole)
  (arg2 : Memref sig .tc .vmem S1024x64 .f32) (harg2 : arg2.IsWhole) (arg3 : Memref sig .tc .vmem S8x1024 .i32) (harg3 : arg3.IsWhole)
  (arg4 : Memref sig .tc .vmem S8x1024x64 .f32) (harg4 : arg4.IsWhole) (arg5 : Memref sig .tc .vmem S1024x64 .f32) (harg5 : arg5.IsWhole)
  (arg6 : Memref sig .tc .vmem S1024x128 .f32) (harg6 : arg6.IsWhole) (arg7 : Memref sig .tc .vmem S1024x64 .f32) (harg7 : arg7.IsWhole)
  (x : Vec F S8x1024x64 .f32) (e en : Vec F S1024x64 .f32) (w1 : Vec F S1024x128 .f32) (w2 : Vec F S1024x64 .f32)

/-- The tiles below `n` of a block of codes are the ones computed. -/
def CodesDone (n : ℕ) (d : Vec F S8x1024 .i32) : Prop := ∀ j, (j 0).val < n → d j = codeBlock x en w1 j

/-- The tiles below `n` of a block of rows are the ones computed. -/
def RowsDone (n : ℕ) (d : Vec F S8x1024x64 .f32) : Prop := ∀ j, (j 0).val < n → d j = rowBlock x e en w1 w2 j

/-- Tiles `r` and `r + 1` of the codes put down: two more are done. -/
theorem CodesDone.step {r : ℕ} (hr : r + 1 < 8) {d : Vec F S8x1024 .i32} (h : CodesDone x en w1 r d) :
    CodesDone x en w1 (r + 2)
      (VecWindow.put (VecWindow.put d ![r, 0] S1x1024.size (codeTile (slab x ⟨r, by omega⟩) en w1)) ![r + 1, 0] S1x1024.size
        (codeTile (slab x ⟨r + 1, hr⟩) en w1)) := by
  intro j hj
  rw [put_codes, put_codes]
  by_cases h1 : (j 0).val = r + 1
  · rw [if_pos h1]; unfold codeBlock
    rw [show (⟨r + 1, hr⟩ : Fin 8) = j 0 from Fin.ext h1.symm]
  · rw [if_neg h1]
    by_cases h0 : (j 0).val = r
    · rw [if_pos h0]; unfold codeBlock
      rw [show (⟨r, by omega⟩ : Fin 8) = j 0 from Fin.ext h0.symm]
    · rw [if_neg h0]; exact h j (by omega)

/-- Tiles `r` and `r + 1` of the rows put down: two more are done. -/
theorem RowsDone.step {r : ℕ} (hr : r + 1 < 8) {d : Vec F S8x1024x64 .f32} (h : RowsDone x e en w1 w2 r d) :
    RowsDone x e en w1 w2 (r + 2)
      (VecWindow.put (VecWindow.put d ![r, 0, 0] S1x1024x64.size (rowTile (slab x ⟨r, by omega⟩) e en w1 w2)) ![r + 1, 0, 0]
        S1x1024x64.size (rowTile (slab x ⟨r + 1, hr⟩) e en w1 w2)) := by
  intro j hj
  rw [put_rows, put_rows]
  by_cases h1 : (j 0).val = r + 1
  · rw [if_pos h1]; unfold rowBlock
    rw [show (⟨r + 1, hr⟩ : Fin 8) = j 0 from Fin.ext h1.symm]
  · rw [if_neg h1]
    by_cases h0 : (j 0).val = r
    · rw [if_pos h0]; unfold rowBlock
      rw [show (⟨r, by omega⟩ : Fin 8) = j 0 from Fin.ext h0.symm]
    · rw [if_neg h0]; exact h j (by omega)

/-- What the loop holds before trip `k`. -/
abbrev loopState (n : ℕ) : sProp 𝕄 :=
  iprop((arg1.view.loc (c : Thread nD τ) ↦[arg1.view.set]{fullShare} (harg1.unread x))
    ∗ (arg2.view.loc (c : Thread nD τ) ↦[arg2.view.set]{fullShare} (harg2.unread e))
    ∗ (arg5.view.loc (c : Thread nD τ) ↦[arg5.view.set]{fullShare} (harg5.unread en))
    ∗ (arg6.view.loc (c : Thread nD τ) ↦[arg6.view.set]{fullShare} (harg6.unread w1))
    ∗ (arg7.view.loc (c : Thread nD τ) ↦[arg7.view.set]{fullShare} (harg7.unread w2))
    ∗ (∃ f, (arg3.view.loc (c : Thread nD τ) ↦[arg3.view.set]{fullShare} f) ∗ ⌜CodesDone x en w1 n (arg3.view.read (Elt F) f)⌝)
    ∗ (∃ f, (arg4.view.loc (c : Thread nD τ) ↦[arg4.view.set]{fullShare} f) ∗ ⌜RowsDone x e en w1 w2 n (arg4.view.read (Elt F) f)⌝))

/-- The trips are four. -/
theorem trip_lt (k : Fin k0_t1_loop.trips) : k.val < 4 := Nat.lt_of_lt_of_eq k.isLt (by decide)

/-- What a whole table's load reads. -/
theorem load_full {s : Shape} {et : EltTy} {m : Memref sig .tc .vmem s et} (h : m.IsWhole) (v : Vec F s et) {off : Fin s.rank → ℕ}
    (inb : ∀ a, off a + s.size a ≤ s.size a) :
    m.view.readAt (Elt F) (Rect.unit off s.size inb).toLoadRect (h.unread v) = v := by
  rw [View.readAt_full, h.read_unread]

/-- What a tile's load reads. -/
theorem load_slab (r : Fin 8) {off : Fin 3 → ℕ} (h : off = ![r.val, 0, 0]) (inb : ∀ a, off a + S1x1024x64.size a ≤ S8x1024x64.size a) :
    arg1.view.readAt (Elt F) (Rect.unit (s := S8x1024x64) off S1x1024x64.size inb).toLoadRect (harg1.unread x) = slab x r := by
  rw [View.readAt_unit _ _ inb h (h ▸ inb), harg1.read_unread, window_slab]

/-- A tile's codes, of what the loads read. -/
theorem codeTile_loaded (r : Fin 8) {off : Fin 3 → ℕ} (h : off = ![r.val, 0, 0]) (i1 i5 i6) :
    codeTile (arg1.view.readAt (Elt F) (Rect.unit (s := S8x1024x64) off S1x1024x64.size i1).toLoadRect (harg1.unread x))
        (arg5.view.readAt (Elt F) (Rect.unit (s := S1024x64) ![0, 0] S1024x64.size i5).toLoadRect (harg5.unread en))
        (arg6.view.readAt (Elt F) (Rect.unit (s := S1024x128) ![0, 0] S1024x128.size i6).toLoadRect (harg6.unread w1))
      = codeTile (slab x r) en w1 := by
  rw [load_slab arg1 harg1 x r h, load_full harg5, load_full harg6]

/-- A tile's selected rows, of what the loads read. -/
theorem rowTile_loaded (r : Fin 8) {off : Fin 3 → ℕ} (h : off = ![r.val, 0, 0]) (i1 i2 i5 i6 i7) :
    rowTile (arg1.view.readAt (Elt F) (Rect.unit (s := S8x1024x64) off S1x1024x64.size i1).toLoadRect (harg1.unread x))
        (arg2.view.readAt (Elt F) (Rect.unit (s := S1024x64) ![0, 0] S1024x64.size i2).toLoadRect (harg2.unread e))
        (arg5.view.readAt (Elt F) (Rect.unit (s := S1024x64) ![0, 0] S1024x64.size i5).toLoadRect (harg5.unread en))
        (arg6.view.readAt (Elt F) (Rect.unit (s := S1024x128) ![0, 0] S1024x128.size i6).toLoadRect (harg6.unread w1))
        (arg7.view.readAt (Elt F) (Rect.unit (s := S1024x64) ![0, 0] S1024x64.size i7).toLoadRect (harg7.unread w2))
      = rowTile (slab x r) e en w1 w2 := by
  rw [load_slab arg1 harg1 x r h, load_full harg2, load_full harg5, load_full harg6, load_full harg7]

/-- Equal payloads put over equal blocks. -/
theorem put_congr {s : Shape} {α : Type} {d d' : s.Idx → α} {o size : Fin s.rank → ℕ} {w w' : ((a : Fin s.rank) → Fin (size a)) → α}
    (hd : d = d') (hw : w = w') : VecWindow.put d o size w = VecWindow.put d' o size w' := by rw [hd, hw]

/-- ONE TRIP: two more tiles done. -/
theorem trip (k : Fin k0_t1_loop.trips) :
    loopState c arg1 harg1 arg2 harg2 arg3 arg4 arg5 harg5 arg6 harg6 arg7 harg7 x e en w1 w2 (2 * k.val)
      ⊢ wp frame (wpE (defs₀ (F := F)) Variants.none c none) Set.univ
          (k0_t1_body (F := F) i arg1 harg1 arg2 harg2 arg3 harg3 arg4 harg4 arg5 harg5 arg6 harg6 arg7 harg7 k ())
          (fun _ => loopState c arg1 harg1 arg2 harg2 arg3 arg4 arg5 harg5 arg6 harg6 arg7 harg7 x e en w1 w2 (2 * (k.val + 1))) := by
  have hk := trip_lt k
  unfold k0_t1_body
  simp only [k0_part2_eq_skeleton, k0_part3_eq_skeleton]
  iintro ⟨H1, H2, H5, H6, H7, ⟨%f3, H3, %h3⟩, ⟨%f4, H4, %h4⟩⟩
  sl_exec
  sl_step
  isplitl [H1]; · iexact H1
  isplitl [H2]; · iexact H2
  isplitl [H5]; · iexact H5
  isplitl [H6]; · iexact H6
  isplitl [H7]; · iexact H7
  isplitl [H3]
  · iexists _; isplitl [H3]; · iexact H3
    ipureintro
    refine Eq.mpr (congrArg (CodesDone x en w1 (2 * (k.val + 1))) ?_) (CodesDone.step x en w1 (r := 2 * k.val) (by omega) h3)
    refine (read_two_stores arg3.view _ _ ![2 * k.val + 1, 0] _ _ _ _ (k0_off7_eq k) (k0_off9_eq k)).trans ?_
    refine put_congr (s := S8x1024) (α := Elt F .i32) (size := S1x1024.size) ?_ ?_
    · refine (read_two_stores arg3.view _ _ ![2 * k.val, 0] _ _ _ _ (k0_off3_eq k) (k0_off5_eq k)).trans ?_
      exact put_congr (s := S8x1024) (α := Elt F .i32) (size := S1x1024.size) rfl (codeTile_loaded arg1 harg1 arg5 harg5 arg6 harg6 x en w1 ⟨2 * k.val, by omega⟩ (k0_off1_eq k) _ _ _)
    · exact codeTile_loaded arg1 harg1 arg5 harg5 arg6 harg6 x en w1 ⟨2 * k.val + 1, by omega⟩ (k0_off2_eq k) _ _ _
  · iexists _; isplitl [H4]; · iexact H4
    ipureintro
    refine Eq.mpr (congrArg (RowsDone x e en w1 w2 (2 * (k.val + 1))) ?_) (RowsDone.step x e en w1 w2 (r := 2 * k.val) (by omega) h4)
    refine (read_two_stores arg4.view _ _ ![2 * k.val + 1, 0, 0] _ _ _ _ (k0_off8_eq k) (k0_off10_eq k)).trans ?_
    refine put_congr (s := S8x1024x64) (α := Elt F .f32) (size := S1x1024x64.size) ?_ ?_
    · refine (read_two_stores arg4.view _ _ ![2 * k.val, 0, 0] _ _ _ _ (k0_off4_eq k) (k0_off6_eq k)).trans ?_
      exact put_congr (s := S8x1024x64) (α := Elt F .f32) (size := S1x1024x64.size) rfl
        (rowTile_loaded arg1 harg1 arg2 harg2 arg5 harg5 arg6 harg6 arg7 harg7 x e en w1 w2 ⟨2 * k.val, by omega⟩ (k0_off1_eq k) _ _ _ _ _)
    · exact rowTile_loaded arg1 harg1 arg2 harg2 arg5 harg5 arg6 harg6 arg7 harg7 x e en w1 w2 ⟨2 * k.val + 1, by omega⟩ (k0_off2_eq k) _ _ _ _ _

set_option warn.classDefReducibility false in
/-- THE LOOP'S INVARIANT: before trip `k`, `2k` tiles are done. -/
@[sl_loop] def loopInv :
    LoopInvTy_k0_t1 (F := F) Unit ℕ (UR sig nD τ) ℕ Variants.none c none Set.univ i arg1 harg1 arg2 harg2 arg3 harg3 arg4 harg4 arg5 harg5
      arg6 harg6 arg7 harg7 where
  inv k _ := loopState c arg1 harg1 arg2 harg2 arg3 arg4 arg5 harg5 arg6 harg6 arg7 harg7 x e en w1 w2 (2 * k)
  step k _ := trip c i arg1 harg1 arg2 harg2 arg3 harg3 arg4 harg4 arg5 harg5 arg6 harg6 arg7 harg7 x e en w1 w2 k

end Cert.Proof.Vq

end
-- ==== Proof.Body.lean ====
/-
  The kernel's body, on any whole staging and scratch memrefs. At the first point it fills the three tables from the
  codebook's block; at every point it computes the block of codes and the block of rows from the input's block and the
  tables.
-/
module

public import proofs.«01_k».proof.Proof.Trip

@[expose] public section

set_option maxRecDepth 16384

noncomputable section

namespace Cert.Proof.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid0.Coords) (arg1 : Memref sig .tc .vmem S8x1024x64 .f32) (harg1 : arg1.IsWhole)
  (arg2 : Memref sig .tc .vmem S1024x64 .f32) (harg2 : arg2.IsWhole) (arg3 : Memref sig .tc .vmem S8x1024 .i32) (harg3 : arg3.IsWhole)
  (arg4 : Memref sig .tc .vmem S8x1024x64 .f32) (harg4 : arg4.IsWhole) (arg5 : Memref sig .tc .vmem S1024x64 .f32) (harg5 : arg5.IsWhole)
  (arg6 : Memref sig .tc .vmem S1024x128 .f32) (harg6 : arg6.IsWhole) (arg7 : Memref sig .tc .vmem S1024x64 .f32) (harg7 : arg7.IsWhole)
  (x : Vec F S8x1024x64 .f32) (e en : Vec F S1024x64 .f32) (w1 : Vec F S1024x128 .f32) (w2 : Vec F S1024x64 .f32)

/-- No tile is done before the loop. -/
theorem CodesDone.zero (d : Vec F S8x1024 .i32) : CodesDone x en w1 (2 * 0) d := fun j h => absurd h (Nat.not_lt_zero _)

/-- No tile is done before the loop. -/
theorem RowsDone.zero (d : Vec F S8x1024x64 .f32) : RowsDone x e en w1 w2 (2 * 0) d := fun j h => absurd h (Nat.not_lt_zero _)

/-- All eight tiles done is the whole block of codes. -/
theorem CodesDone.all {d : Vec F S8x1024 .i32} (h : CodesDone x en w1 8 d) : d = codeBlock x en w1 := funext fun j => h j (j 0).isLt

/-- All eight tiles done is the whole block of rows. -/
theorem RowsDone.all {d : Vec F S8x1024x64 .f32} (h : RowsDone x e en w1 w2 8 d) : d = rowBlock x e en w1 w2 := funext fun j => h j (j 0).isLt

/-- Whether the grid's coordinate is zero, as the kernel decides it. -/
abbrev first (i : grid0.Coords) : Prop :=
  (Scalar.cmpi .ne (Scalar.extui (Scalar.cmpi .eq (BitVec.ofNat 32 (i 0).val) 0#32)) 0#32) = 1#1

/-- The memrefs after the body, the tables at `en`, `w1`, `w2`. -/
abbrev bodyEnd : sProp 𝕄 :=
  iprop(owns (c : Thread nD τ) arg1 fullShare x ∗ owns (c : Thread nD τ) arg2 fullShare e
    ∗ owns (c : Thread nD τ) arg3 fullShare (codeBlock x en w1) ∗ owns (c : Thread nD τ) arg4 fullShare (rowBlock x e en w1 w2)
    ∗ owns (c : Thread nD τ) arg5 fullShare en ∗ owns (c : Thread nD τ) arg6 fullShare w1 ∗ owns (c : Thread nD τ) arg7 fullShare w2)

/-- The memrefs after the loop are the memrefs after the body. -/
theorem loopState_end (n : ℕ) (hn : n = 8) :
    loopState c arg1 harg1 arg2 harg2 arg3 arg4 arg5 harg5 arg6 harg6 arg7 harg7 x e en w1 w2 n
      ⊢ bodyEnd c arg1 arg2 arg3 arg4 arg5 arg6 arg7 x e en w1 w2 := by
  subst hn
  iintro ⟨H1, H2, H5, H6, H7, ⟨%f3, H3, %h3⟩, ⟨%f4, H4, %h4⟩⟩
  unfold bodyEnd owns
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact h3.all
    iexact H3
  isplitl [H4]
  · iexists _; isplitr; · ipureintro; exact h4.all
    iexact H4
  isplitl [H5]
  · iexists _; isplitr; · ipureintro; exact harg5.read_unread _
    iexact H5
  isplitl [H6]
  · iexists _; isplitr; · ipureintro; exact harg6.read_unread _
    iexact H6
  iexists _; isplitr; · ipureintro; exact harg7.read_unread _
  iexact H7

/-- The loop, from any blocks of codes and rows: the body's end. -/
theorem loop_run (f3 : arg3.view.ty.Contents (Elt F)) (f4 : arg4.view.ty.Contents (Elt F)) :
    iprop((arg1.view.loc (c : Thread nD τ) ↦[arg1.view.set]{fullShare} (harg1.unread x))
        ∗ (arg2.view.loc (c : Thread nD τ) ↦[arg2.view.set]{fullShare} (harg2.unread e))
        ∗ (arg3.view.loc (c : Thread nD τ) ↦[arg3.view.set]{fullShare} f3) ∗ (arg4.view.loc (c : Thread nD τ) ↦[arg4.view.set]{fullShare} f4)
        ∗ (arg5.view.loc (c : Thread nD τ) ↦[arg5.view.set]{fullShare} (harg5.unread en))
        ∗ (arg6.view.loc (c : Thread nD τ) ↦[arg6.view.set]{fullShare} (harg6.unread w1))
        ∗ (arg7.view.loc (c : Thread nD τ) ↦[arg7.view.set]{fullShare} (harg7.unread w2)))
      ⊢ wp frame (wpE (defs₀ (F := F)) Variants.none c none) Set.univ
          (do Scf.Loop.for k0_t1_loop k0_t1_ok PUnit.unit (k0_t1_body i arg1 harg1 arg2 harg2 arg3 harg3 arg4 harg4 arg5 harg5 arg6 harg6 arg7 harg7); pure PUnit.unit)
          (fun _ => bodyEnd c arg1 arg2 arg3 arg4 arg5 arg6 arg7 x e en w1 w2) := by
  iintro ⟨H1, H2, H3, H4, H5, H6, H7⟩
  have h3 := CodesDone.zero x en w1 (arg3.view.read (Elt F) f3)
  have h4 := RowsDone.zero x e en w1 w2 (arg4.view.read (Elt F) f4)
  sl_exec
  sl_step
  iapply (loopState_end c arg1 harg1 arg2 harg2 arg3 arg4 arg5 harg5 arg6 harg6 arg7 harg7 x e en w1 w2 _ (show 2 * k0_t1_loop.trips = 8 by decide))
  isplitl [H1]; · iexact H1
  isplitl [H2]; · iexact H2
  isplitl [H5]; · iexact H5
  isplitl [H6]; · iexact H6
  isplitl [H7]; · iexact H7
  isplitl [H3]
  · iexists _; isplitl [H3]; · iexact H3
    ipureintro; assumption
  iexists _; isplitl [H4]; · iexact H4
  ipureintro; assumption

/-- The body at a later point: the tables are read as they stand. -/
theorem body_later (hc : ¬ first i) :
    iprop(owns (c : Thread nD τ) arg1 fullShare x ∗ owns (c : Thread nD τ) arg2 fullShare e
        ∗ (∃ d, owns (c : Thread nD τ) arg3 fullShare d) ∗ (∃ d, owns (c : Thread nD τ) arg4 fullShare d)
        ∗ owns (c : Thread nD τ) arg5 fullShare en ∗ owns (c : Thread nD τ) arg6 fullShare w1 ∗ owns (c : Thread nD τ) arg7 fullShare w2)
      ⊢ wp frame (wpE (defs₀ (F := F)) Variants.none c none) Set.univ
          (cc0__vq_body i arg1 harg1 arg2 harg2 arg3 harg3 arg4 harg4 arg5 harg5 arg6 harg6 arg7 harg7)
          (fun _ => bodyEnd c arg1 arg2 arg3 arg4 arg5 arg6 arg7 x e en w1 w2) := by
  simp only [cc0__vq_body_eq_skeleton]; unfold cc0__vq_body_skel owns
  rw [dif_neg hc]
  iintro ⟨⟨%f1, %hf1, H1⟩, ⟨%f2, %hf2, H2⟩, ⟨%d3, %f3, -, H3⟩, ⟨%d4, %f4, -, H4⟩, ⟨%f5, %hf5, H5⟩, ⟨%f6, %hf6, H6⟩, ⟨%f7, %hf7, H7⟩⟩
  obtain rfl := harg1.eq_unread hf1; obtain rfl := harg2.eq_unread hf2; obtain rfl := harg5.eq_unread hf5
  obtain rfl := harg6.eq_unread hf6; obtain rfl := harg7.eq_unread hf7
  iapply (loop_run c i arg1 harg1 arg2 harg2 arg3 harg3 arg4 harg4 arg5 harg5 arg6 harg6 arg7 harg7 x e en w1 w2 f3 f4)
  isplitl [H1]; · iexact H1
  isplitl [H2]; · iexact H2
  isplitl [H3]; · iexact H3
  isplitl [H4]; · iexact H4
  isplitl [H5]; · iexact H5
  isplitl [H6]; · iexact H6
  iexact H7

/-- The body at the first point: the tables are filled from the codebook's block, then read. -/
theorem body_first (hc : first i) :
    iprop(owns (c : Thread nD τ) arg1 fullShare x ∗ owns (c : Thread nD τ) arg2 fullShare e
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d) ∗ (∃ d, owns (c : Thread nD τ) arg7 fullShare d))
      ⊢ wp frame (wpE (defs₀ (F := F)) Variants.none c none) Set.univ
          (cc0__vq_body i arg1 harg1 arg2 harg2 arg3 harg3 arg4 harg4 arg5 harg5 arg6 harg6 arg7 harg7)
          (fun _ => bodyEnd c arg1 arg2 arg3 arg4 arg5 arg6 arg7 x e (unitTable e) (leadTable e) (restTable e)) := by
  simp only [cc0__vq_body_eq_skeleton]; unfold cc0__vq_body_skel
  simp only [k0_part1_eq_skeleton]
  rw [dif_pos hc]; simp only [wp_bind]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩⟩
  obtain rfl := harg1.eq_unread hf1; obtain rfl := harg2.eq_unread hf2
  sl_exec
  have e5 : arg5.view.writes (Elt F) arg5.view.junk (body_first.sl.H5_1 c arg2 harg2 e) = harg5.unread (unitTable e) :=
    harg5.eq_unread ((View.read_writes_full arg5.view _ _ _ []).trans (congrArg unitTable (load_full harg2 e _)))
  have e6 : arg6.view.writes (Elt F) arg6.view.junk (body_first.sl.H6_1 c arg2 harg2 e) = harg6.unread (leadTable e) :=
    harg6.eq_unread ((View.read_writes_full arg6.view _ _ _ []).trans (congrArg leadTable (load_full harg2 e _)))
  have e7 : arg7.view.writes (Elt F) arg7.view.junk (body_first.sl.H7_1 c arg2 harg2 e) = harg7.unread (restTable e) :=
    harg7.eq_unread ((View.read_writes_full arg7.view _ _ _ []).trans (congrArg restTable (load_full harg2 e _)))
  rw [e5, e6, e7, ← wp_bind]
  iapply (loop_run c i arg1 harg1 arg2 harg2 arg3 harg3 arg4 harg4 arg5 harg5 arg6 harg6 arg7 harg7 x e (unitTable e) (leadTable e) (restTable e) f3 f4)
  isplitl [H1]; · iexact H1
  isplitl [H2]; · iexact H2
  isplitl [H3]; · iexact H3
  isplitl [H4]; · iexact H4
  isplitl [H5]; · iexact H5
  isplitl [H6]; · iexact H6
  iexact H7

end Cert.Proof.Vq

end
-- ==== Proof.Run.lean ====
/-
  The kernel's run: what each grid point leaves in its windows' buffers and in the three tables, the launch from any
  memory, and the frame.
-/
module

public import proofs.«01_k».proof.Proof.Body
public import proofs.«01_k».proof.Proof.Gen.KernelIdeal.Frame
public import Idealize.ShloMosaic.Lib.Claim

@[expose] public section

set_option maxRecDepth 16384

noncomputable section

namespace Cert.Proof.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch is taken at the first point only. -/
theorem first_iff (t : Fin cfg0.N) : first (grid0.coords t) ↔ t.val = 0 := by
  have ht : t.val < 4 := Nat.lt_of_lt_of_eq t.isLt N_0
  have e0 : (grid0.coords t 0).val = t.val / 1 % 4 := Pipeline.Grid.coords_val t 0 (by decide) rfl
  have e1 : (grid0.coords t 0).val = t.val := by omega
  simp only [first, e1]
  word_cmp

/-- The input's block at a point. -/
abbrev input (c : Dev nD) (t : Fin cfg0.N) : Vec F S8x1024x64 .f32 := iblk m c 0 t

/-- The codebook's block. -/
abbrev book (c : Dev nD) : Vec F S1024x64 .f32 := iblk m c 1 t0_0

/-- The codebook's block is the same at every point. -/
theorem book_eq (c : Dev nD) (t : Fin cfg0.N) : iblk m c 1 t = book m c := rfl

/-- The block of codes a point computes. -/
abbrev codes (c : Dev nD) (t : Fin cfg0.N) : Vec F S8x1024 .i32 :=
  codeBlock (input m c t) (unitTable (book m c)) (leadTable (book m c))

/-- The block of rows a point computes. -/
abbrev rows (c : Dev nD) (t : Fin cfg0.N) : Vec F S8x1024x64 .f32 :=
  rowBlock (input m c t) (book m c) (unitTable (book m c)) (leadTable (book m c)) (restTable (book m c))

/-- The three tables, whole scoped buffers. -/
abbrev sc0 : Memref sig .tc .vmem S1024x64 .f32 := Memref.whole cc0_scratch0
abbrev sc1 : Memref sig .tc .vmem S1024x128 .f32 := Memref.whole cc0_scratch1
abbrev sc2 : Memref sig .tc .vmem S1024x64 .f32 := Memref.whole cc0_scratch2

/-- Between points, the three tables as the first point filled them. -/
abbrev tables (c : Dev nD) : sProp 𝕄 :=
  iprop(iprop(owns (c : Thread nD τ) sc0 fullShare (unitTable (book m c)) ∗ owns (c : Thread nD τ) sc1 fullShare (leadTable (book m c))
    ∗ owns (c : Thread nD τ) sc2 fullShare (restTable (book m c))) ∗ (∃ r, prngReg c r))

/-- The three tables at anything. -/
theorem any_tables (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

/-- What is carried between points: the tables at anything before the first, as filled after. -/
def carried (c : Dev nD) (n : ℕ) : sProp 𝕄 := if n = 0 then Pipeline.ΦA spec0 c else tables m c

/-- The proof data: each input's buffer at its block, each result's at the block the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => codes m c t
    | ⟨3, _⟩ => rows m c t
  Φ n := carried m c n.val
  q _ := fullShare
  owed _ := 0

/-- The arrays are as the kernel finds them. -/
theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = codes m c t := by dsimp only [dats]
theorem after_3 (c : Dev nD) (t : Fin cfg0.N) : (dats m 0 c).after 3 t = rows m c t := by dsimp only [dats]

/-- Each input's buffer holds its block at every point. -/
theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d

/-- What the body is called with, -/
def bodyPre (c : Dev nD) (t : Fin cfg0.N) : sProp 𝕄 :=
  iprop(carried m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop(carried m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body's end, as the point hands it back. -/
theorem body_back (c : Dev nD) (t : Fin cfg0.N) :
    iprop(bodyEnd c (st0_0 t) (st0_1 t) (st0_2 t) (st0_3 t) sc0 sc1 sc2 (input m c t) (book m c) (unitTable (book m c)) (leadTable (book m c)) (restTable (book m c))
        ∗ (∃ r, prngReg c r) ∗ (dats m 0 c).owesAt () t.castSucc)
      ⊢ bodyPost m c t := by
  unfold bodyPost carried
  rw [if_neg (Nat.succ_ne_zero _), show (dats m 0 c).owesAt () t.succ = (dats m 0 c).owesAt () t.castSucc from rfl,
    after_0, after_1, after_2, after_3, book_eq]
  iintro ⟨⟨H0, H1, H2, H3, HS0, HS1, HS2⟩, Hg, Ho⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexact H3

/-- A run of the body to its end, beside what the body does not touch. -/
theorem body_framed (c : Dev nD) (t : Fin cfg0.N) {R : sProp 𝕄}
    (h : R ⊢ wp frame (wpE (defs₀ (F := F)) Variants.none c none) Set.univ (bodyAt0 t) (fun _ =>
      bodyEnd c (st0_0 t) (st0_1 t) (st0_2 t) (st0_3 t) sc0 sc1 sc2 (input m c t) (book m c) (unitTable (book m c)) (leadTable (book m c)) (restTable (book m c)))) :
    iprop(R ∗ (∃ r, prngReg c r) ∗ (dats m 0 c).owesAt () t.castSucc)
      ⊢ wp frame (wpE (defs₀ (F := F)) Variants.none c none) Set.univ (bodyAt0 t) (fun _ => bodyPost m c t) :=
  (sep_mono_left h).trans ((wp_frame_r _ _ _).trans (wp_mono _ _ _ fun _ => body_back m c t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  simp only [before_0, before_1, book_eq]
  unfold carried
  by_cases h0 : t.val = 0
  · rw [if_pos h0, any_tables]
    iintro ⟨⟨⟨HS0, HS1, HS2⟩, Hg⟩, Ho, ⟨%d0, H0⟩, ⟨%d1, H1⟩, ⟨%d2, H2⟩, ⟨%d3, H3⟩⟩
    iapply (body_framed m c t (body_first c (grid0.coords t) _ _ _ _ _ _ _ _ _ _ _ _ _ _ (input m c t) (book m c) ((first_iff t).mpr h0)))
    isplitr [Hg Ho]
    · isplitl [H0]; · iexact H0
      isplitl [H1]; · iexact H1
      isplitl [H2]; · iexists _; iexact H2
      isplitl [H3]; · iexists _; iexact H3
      isplitl [HS0]; · iexact HS0
      isplitl [HS1]; · iexact HS1
      iexact HS2
    isplitl [Hg]; · iexact Hg
    iexact Ho
  · rw [if_neg h0]
    iintro ⟨⟨⟨HS0, HS1, HS2⟩, Hg⟩, Ho, ⟨%d0, H0⟩, ⟨%d1, H1⟩, ⟨%d2, H2⟩, ⟨%d3, H3⟩⟩
    iapply (body_framed m c t (body_later c (grid0.coords t) _ _ _ _ _ _ _ _ _ _ _ _ _ _ (input m c t) (book m c) _ _ _ (fun h => h0 ((first_iff t).mp h))))
    isplitr [Hg Ho]
    · isplitl [H0]; · iexact H0
      isplitl [H1]; · iexact H1
      isplitl [H2]; · iexists _; iexact H2
      isplitl [H3]; · iexists _; iexact H3
      isplitl [HS0]; · iexact HS0
      isplitl [HS1]; · iexact HS1
      iexact HS2
    isplitl [Hg]; · iexact Hg
    iexact Ho

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The obligation of the pipeline's proof rule, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- THE RUN: from any memory with zero counters every fair execution ends with the arrays at what the points left, and the
    counters at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := dats_A m)
    (hin := fun c => .rfl)
    (hout := fun c => by
      show carried m c cfg0.N ⊢ _
      unfold carried
      rw [if_neg (by rw [show cfg0.N = 4 from N_0]; decide), any_tables]
      iintro ⟨⟨HS0, HS1, HS2⟩, Hg⟩
      isplitr [Hg]
      · isplitl [HS0]; · iexists _; iexact HS0
        isplitl [HS1]; · iexists _; iexact HS1
        iexists _; iexact HS2
      iexact Hg)
    (hQ' := fun _ h => h)

/-- THE FRAME: the arguments end unchanged and the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (dats_A m) ((θ_run defs _ _).mono (fun _ h => h.1) (run_main m ρ)))
    ((θ_run defs _ _).mono (fun _ h => h.2) (run_main m ρ))

end Cert.Proof.Vq

end
-- ==== Proof.Same.lean ====
/-
  The kernel and the idealized kernel are one program: no operation of the kernel is rewritten for the ideal reading.
-/
module

public import proofs.«01_k».proof.Proof.Gen.Kernel
public import proofs.«01_k».proof.Proof.Run

@[expose] public section

set_option maxRecDepth 16384

noncomputable section

namespace Cert.Proof.Same

open Idealize.ShloMosaic Idealize.ShloMosaic.TcCoe Idealize.SL.Sem

variable {F : FTy → Type} [FloatOps F]

/-- Each label runs the same body. -/
theorem bodies_eq : Cert.Kernel.defs₀ (F := F) = Cert.KernelIdeal.defs₀ (F := F) := by
  unfold Cert.Kernel.defs₀ Cert.KernelIdeal.defs₀
  refine congrArg Defs.onTc ?_
  funext p x
  match p, x with
  | 0, (t, s) => rfl

/-- The whole body tables, the pipeline's labels included, agree. -/
theorem defs_eq : Cert.Kernel.defs (F := F) = Cert.KernelIdeal.defs (F := F) := by
  unfold Cert.Kernel.defs Cert.KernelIdeal.defs
  rw [bodies_eq]; rfl

open Cert.Kernel in
/-- The kernel's frame, at any floats. -/
theorem run_frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq]
  exact Vq.run_frame m ρ

end Cert.Proof.Same

end
-- ==== Proof.RefRun.lean ====
/-
  The reference's run: its two results as functions of its two arguments, stage by stage, and its frame.
-/
module

public import proofs.«01_k».proof.Proof.Gen.ReferenceIdeal
public import Idealize.ShloMosaic.Lib.StableHlo.RunHlo
public import Idealize.ShloMosaic.Lib.Claim
public import Idealize.ShloMosaic.Lib.Quiescent

@[expose] public section

set_option maxRecDepth 16384

noncomputable section

namespace Cert.Proof.Ref

open Idealize.ShloMosaic Idealize.ShloMosaic.TcCoe Idealize.SL.Sem
open Cert.ReferenceIdeal Cert.ReferenceIdeal.Gen

variable {F : FTy → Type} [FloatOps F]

/-- The input's rows in one list, each divided by its clipped length. -/
def unitRows (x : Vec F S1x32768x64 .f32) : Vec F S1x32768x64 .f32 :=
  Host.divf x (broadcastInDim S1x32768x64 ![0, 1, 2] bcast_S1x32768x1_S1x32768x64_0_1_2
    (maximumf (broadcastInDim S1x32768x1 ![] bcast_S_S1x32768x1 (constant S_ .f32 0x2B8CBCCC#32))
      (Host.sqrt (broadcastInDim S1x32768x1 ![0, 1] bcast_S1x32768_S1x32768x1_0_1
        (Host.reduceAdd (mulf x x) (constant S_ .f32 0x00000000#32) reducesTo_S1x32768x64_S1x32768_d2 h_S_)))))

/-- The codebook's rows, each divided by its clipped length. -/
def unitBook (e : Vec F S1x1024x64 .f32) : Vec F S1x1024x64 .f32 :=
  Host.divf e (broadcastInDim S1x1024x64 ![0, 1, 2] bcast_S1x1024x1_S1x1024x64_0_1_2
    (maximumf (broadcastInDim S1x1024x1 ![] bcast_S_S1x1024x1 (constant S_ .f32 0x2B8CBCCC#32))
      (Host.sqrt (broadcastInDim S1x1024x1 ![0, 1] bcast_S1x1024_S1x1024x1_0_1
        (Host.reduceAdd (mulf e e) (constant S_ .f32 0x00000000#32) reducesTo_S1x1024x64_S1x1024_d2 h_S_)))))

/-- The input's rows in one list. -/
def rowList (x : Vec F S32x1024x64 .f32) : Vec F S1x32768x64 .f32 :=
  shapeCast S1x32768x64 (broadcastInDim S1x32x1024x64 ![1, 2, 3] bcast_S32x1024x64_S1x32x1024x64_1_2_3 x) shapeCasts_S1x32x1024x64_S1x32768x64

/-- Every input row against every codebook row. -/
def scores (x : Vec F S32x1024x64 .f32) (e : Vec F S1x1024x64 .f32) : Vec F S1x32768x1024 .f32 :=
  Host.dotGeneral dot_S1x32768x64_S1x1024x64_S1x32768x1024_2_2_1_1_0_0 none (unitRows (rowList x)) (unitBook e)

/-- The position of each row's maximum. -/
def best (s : Vec F S1x32768x1024 .f32) : Vec F S1x32768 .i32 := fun j =>
  (Host.argReduce reducer_argmax_f32_i32 s (iotaInDim S1x32768x1024 32 2) (constant S_ .f32 0xFF800000#32) (constantI S_ 32 0#32)
    reducesTo_S1x32768x1024_S1x32768_d2 h_S_ j).2

/-- The codes. -/
def codes (x : Vec F S32x1024x64 .f32) (e : Vec F S1x1024x64 .f32) : Vec F S32x1024 .i32 :=
  shapeCast S32x1024 (shapeCast S1x32x1024 (best (scores x e)) shapeCasts_S1x32768_S1x32x1024) shapeCasts_S1x32x1024_S32x1024

/-- The positions a lookup reads: a negative one counts from the end. -/
def wrapped (i : Vec F S32x1024 .i32) : IVec S32x1024x1 32 :=
  broadcastInDim S32x1024x1 ![0, 1] bcast_S32x1024_S32x1024x1_0_1
    (select (cmpi .slt i (broadcastInDim S32x1024 ![] bcast_S_S32x1024 (constantI S_ 32 0#32)))
      (addi i (broadcastInDim S32x1024 ![] bcast_S_S32x1024 (constantI S_ 32 1024#32))) i)

/-- Whether a position lies in the codebook. -/
def inside (p : IVec S32x1024x1 32) : IVec S32x1024 1 :=
  Host.reduce IntOp.andi
    (andi (cmpi .sge p (broadcastInDim S32x1024x1 ![] bcast_S_S32x1024x1 (constantI S_ 32 0#32)))
      (cmpi .sle p (broadcastInDim S32x1024x1 ![0, 1, 2] bcast_S1x1x1_S32x1024x1_0_1_2
        (broadcastInDim S1x1x1 ![2] bcast_S1_S1x1x1_2 (constantI S1 32 1023#32)))))
    (constantI S_ 1 1#1) reducesTo_S32x1024x1_S32x1024_d2 h_S_

/-- The codebook's rows at given positions. -/
def take (e : Vec F S1024x64 .f32) (i : Vec F S32x1024 .i32) : Vec F S32x1024x64 .f32 :=
  select (broadcastInDim S32x1024x64 ![0, 1] bcast_S32x1024_S32x1024x64_0_1 (inside (wrapped i)))
    (Host.gather gather_S1024x64_S32x1024x1_S32x1024x64_2_0_n_n_0_2_164 e (wrapped i))
    (broadcastInDim S32x1024x64 ![] bcast_S_S32x1024x64 (constant S_ .f32 0x7FC00000#32))

/-- The selected rows. -/
def rows (x : Vec F S32x1024x64 .f32) (e : Vec F S1x1024x64 .f32) : Vec F S32x1024x64 .f32 :=
  take (shapeCast S1024x64 e shapeCasts_S1x1024x64_S1024x64) (codes x e)

variable (m : (ℓ : Loc nD τ sig) → Buf (Elt F) ℓ) (ρ : Dev nD → PrngReg)

/-! A named buffer's contents carried to the type it is declared at, and back, are the contents. -/

theorem ofBuf_v1 (h1 h2 h3) (v : Vec F S1x32768x64 .f32) : (StableHlo.TRef.of main_v1 h1 h2 h3 : StableHlo.TRef sig ⟨S1x32768x64, .f32⟩).ofBuf v = v :=
  eq_of_heq (cast_heq _ _)

theorem ofBuf_cst (h1 h2 h3) (v : Vec F S_ .f32) : (StableHlo.TRef.of main_cst h1 h2 h3 : StableHlo.TRef sig ⟨S_, .f32⟩).ofBuf v = v :=
  eq_of_heq (cast_heq _ _)

theorem toBuf_v3 (h1 h2 h3) (v : Vec F S1x32768x1 .f32) : (StableHlo.TRef.of main_v3 h1 h2 h3 : StableHlo.TRef sig ⟨S1x32768x1, .f32⟩).toBuf v = v :=
  eq_of_heq (cast_heq _ _)

theorem ofBuf_arg1 (h1 h2 h3) (v : Vec F S1x1024x64 .f32) : (StableHlo.TRef.of main_arg1 h1 h2 h3 : StableHlo.TRef sig ⟨S1x1024x64, .f32⟩).ofBuf v = v :=
  eq_of_heq (cast_heq _ _)

theorem ofBuf_cst_0 (h1 h2 h3) (v : Vec F S_ .f32) : (StableHlo.TRef.of main_cst_0 h1 h2 h3 : StableHlo.TRef sig ⟨S_, .f32⟩).ofBuf v = v :=
  eq_of_heq (cast_heq _ _)

theorem toBuf_v7 (h1 h2 h3) (v : Vec F S1x1024x1 .f32) : (StableHlo.TRef.of main_v7 h1 h2 h3 : StableHlo.TRef sig ⟨S1x1024x1, .f32⟩).toBuf v = v :=
  eq_of_heq (cast_heq _ _)

theorem ofBuf_v10 (h1 h2 h3) (v : Vec F S1x32768x1024 .f32) : (StableHlo.TRef.of main_v10 h1 h2 h3 : StableHlo.TRef sig ⟨S1x32768x1024, .f32⟩).ofBuf v = v :=
  eq_of_heq (cast_heq _ _)

theorem toBuf_v11 (h1 h2 h3) (v : Vec F S1x32768 .i32) : (StableHlo.TRef.of main_v11 h1 h2 h3 : StableHlo.TRef sig ⟨S1x32768, .i32⟩).toBuf v = v :=
  eq_of_heq (cast_heq _ _)

theorem ofBuf_v13 (h1 h2 h3) (v : Vec F S1024x64 .f32) : (StableHlo.TRef.of main_v13 h1 h2 h3 : StableHlo.TRef sig ⟨S1024x64, .f32⟩).ofBuf v = v :=
  eq_of_heq (cast_heq _ _)

theorem ofBuf_v14 (h1 h2 h3) (v : Vec F S32x1024 .i32) : (StableHlo.TRef.of main_v14 h1 h2 h3 : StableHlo.TRef sig ⟨S32x1024, .i32⟩).ofBuf v = v :=
  eq_of_heq (cast_heq _ _)

theorem toBuf_v15 (h1 h2 h3) (v : Vec F S32x1024x64 .f32) : (StableHlo.TRef.of main_v15 h1 h2 h3 : StableHlo.TRef sig ⟨S32x1024x64, .f32⟩).toBuf v = v :=
  eq_of_heq (cast_heq _ _)

/-- The position of each row's maximum, written out. -/
theorem best_eq (s : Vec F S1x32768x1024 .f32) :
    (fun j => (Host.argReduce reducer_argmax_f32_i32 s (iotaInDim S1x32768x1024 32 2) (constant S_ .f32 0xFF800000#32) (constantI S_ 32 0#32)
      reducesTo_S1x32768x1024_S1x32768_d2 h_S_ j).2) = best s := by
  unfold best; rfl

/-- THE RUN: the results are the rows and the codes. -/
theorem run : θ_run defs (onTc (τ := τ) (main (F := F))) ⟨m, fun _ => 0, ρ⟩ (fun r => ∀ c : Dev nD,
      r.2.mem ((c.tc : Thread nD τ).loc main_v15) = rows (m ((c.tc : Thread nD τ).loc main_arg0)) (m ((c.tc : Thread nD τ).loc main_arg1))
      ∧ r.2.mem ((c.tc : Thread nD τ).loc main_v16) = codes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  · simp only [StableHlo.TRef.ofBuf_toBuf, ofBuf_v1, ofBuf_cst, toBuf_v3, ofBuf_arg1, ofBuf_cst_0, toBuf_v7, ofBuf_v10, ofBuf_v13, ofBuf_v14, toBuf_v15]
    simp only [best_eq]
    generalize hb : best (F := F) _ = b
    have hs : best (scores (m ((c.tc : Thread nD τ).loc main_arg0)) (m ((c.tc : Thread nD τ).loc main_arg1))) = b := by
      rw [← hb]; rfl
    unfold rows codes
    rw [hs]
    clear hs hb
    unfold take inside wrapped
    have h11 := toBuf_v11 rfl (by decide) rfl b
    generalize (StableHlo.TRef.of main_v11 rfl (by decide) rfl : StableHlo.TRef sig ⟨S1x32768, .i32⟩).toBuf b = b' at h11 ⊢
    subst h11
    rfl
  · simp only [StableHlo.TRef.ofBuf_toBuf, ofBuf_v1, ofBuf_cst, toBuf_v3, ofBuf_arg1, ofBuf_cst_0, toBuf_v7, ofBuf_v10, ofBuf_v13, ofBuf_v14, toBuf_v15]
    simp only [best_eq]
    generalize hb : best (F := F) _ = b
    have hs : best (scores (m ((c.tc : Thread nD τ).loc main_arg0)) (m ((c.tc : Thread nD τ).loc main_arg1))) = b := by
      rw [← hb]; rfl
    unfold codes
    rw [hs]
    clear hs hb
    have h11 := toBuf_v11 rfl (by decide) rfl b
    generalize (StableHlo.TRef.of main_v11 rfl (by decide) rfl : StableHlo.TRef sig ⟨S1x32768, .i32⟩).toBuf b = b' at h11 ⊢
    subst h11
    rfl

/-- THE FRAME: the arguments end unchanged and the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2, sem_eq_zero_of_no_sems rfl r.2⟩) (run m ρ)

end Cert.Proof.Ref
end
-- ==== Proof.Pick.lean ====
/-
  The least position of the greatest of 1024 extended reals: that there is one and only one, and the ways in which a
  program reads it off a row of values (a maximum, a count of the places that attain it, a sum over those places, the
  least of their numbers).
-/
module

public import Idealize.ShloMosaic.PureOps.Ideal.Laws

@[expose] public section

noncomputable section

namespace Cert.Proof.Pick

open Idealize.ShloMosaic

/-- The word a running maximum starts from is below everything. -/
theorem lowest : Ideal.ofBits FTy.f32 0xFF800000#32 = ⊥ := by
  simp [Ideal.ofBits, Ideal.ieee]

/-- An entry of a vector divided by the vector's length, the length clipped from below. -/
def unit (v : Fin 64 → EReal) (d : Fin 64) : EReal :=
  Ideal.div (v d) (max (Ideal.ofBits FTy.f32 0x2B8CBCCC#32) (Ideal.sqrt (∑ i, v i * v i)))

/-- A vector against the `k`th row of a table, both at clipped unit length. -/
def score (v : Fin 64 → EReal) (E : Fin 1024 → Fin 64 → EReal) (k : Fin 1024) : EReal := ∑ d, unit v d * unit (E k) d

/-- `k` is the least position at which `s` is greatest. -/
def First (s : Fin 1024 → EReal) (k : Fin 1024) : Prop := ∀ j, s j ≤ s k ∧ (j < k → s j < s k)

variable {s : Fin 1024 → EReal} {k : Fin 1024}

/-- There is such a position. -/
theorem exists_first (s : Fin 1024 → EReal) : ∃ k, First s k := by
  obtain ⟨k0, h0⟩ := Finite.exists_max s
  have hne : (Finset.univ.filter fun j => s j = s k0).Nonempty := ⟨k0, by simp⟩
  have hm := Finset.min'_mem _ hne
  refine ⟨(Finset.univ.filter fun j => s j = s k0).min' hne, fun j => ?_⟩
  rw [Finset.mem_filter] at hm
  refine ⟨le_of_le_of_eq (h0 j) hm.2.symm, fun hj => ?_⟩
  rw [hm.2]
  refine lt_of_le_of_ne (h0 j) fun he => ?_
  exact absurd (Finset.min'_le _ j (by simp [he])) (not_le.mpr hj)

/-- There is one only. -/
theorem First.unique {k' : Fin 1024} (h : First s k) (h' : First s k') : k = k' := by
  rcases lt_trichotomy k k' with hlt | he | hlt
  · exact absurd ((h' k).2 hlt) (not_lt.mpr (h k').1)
  · exact he
  · exact absurd ((h k').2 hlt) (not_lt.mpr (h' k).1)

/-- The running maximum from below everything ends at the value there. -/
theorem First.fold_max (h : First s k) : Finset.univ.fold max ⊥ s = s k :=
  le_antisymm ((Finset.fold_max_le _).2 ⟨bot_le, fun j _ => (h j).1⟩)
    ((Finset.le_fold_max _).2 (Or.inr ⟨k, Finset.mem_univ _, le_rfl⟩))

/-- Two places that attain a value are counted as two at least. -/
theorem two_le_count {j : Fin 1024} (hne : j ≠ k) (he : s j = s k) :
    (2 : EReal) ≤ ∑ i, (if s i = s k then (1 : EReal) else 0) * 1 := by
  have hsub : ∑ i ∈ ({j, k} : Finset (Fin 1024)), (if s i = s k then (1 : EReal) else 0) * 1
      ≤ ∑ i, (if s i = s k then (1 : EReal) else 0) * 1 :=
    Finset.sum_le_sum_of_subset_of_nonneg (Finset.subset_univ _) fun i _ _ => by split <;> simp
  refine le_trans (le_of_eq ?_) hsub
  rw [Finset.sum_pair hne, if_pos he, if_pos rfl, mul_one, one_add_one_eq_two]

/-- A sum over the one place that attains a value is the term there. -/
theorem sum_at (hone : ∀ j, s j = s k → j = k) (w : Fin 1024 → EReal) :
    ∑ i, (if s i = s k then (1 : EReal) else 0) * w i = w k := by
  rw [Finset.sum_eq_single k (fun j _ hj => by rw [if_neg (fun he => hj (hone j he)), zero_mul])
    (fun h => absurd (Finset.mem_univ k) h), if_pos rfl, one_mul]

/-- A running signed minimum over a set, from above `m`, of words that are all above `m` and `m` itself, is `m`. -/
theorem fold_minsi {ι : Type} [Fintype ι] [DecidableEq ι] (g : ι → BitVec 32) (b : BitVec 32) (i : ι)
    (hb : (g i).toInt ≤ b.toInt) (hg : ∀ j, (g i).toInt ≤ (g j).toInt) : Finset.univ.fold IntOp.minsi b g = g i := by
  have key : ∀ S : Finset ι, (g i).toInt ≤ (S.fold IntOp.minsi b g).toInt := by
    intro S
    induction S using Finset.induction_on with
    | empty => simpa using hb
    | insert a S ha ih =>
      rw [Finset.fold_insert ha]
      unfold IntOp.minsi
      split
      · exact hg a
      · exact ih
  have h1 := key (Finset.univ.erase i)
  rw [← Finset.insert_erase (Finset.mem_univ i), Finset.fold_insert (Finset.notMem_erase _ _)]
  generalize (Finset.univ.erase i).fold IntOp.minsi b g = r at h1 ⊢
  unfold IntOp.minsi
  split
  · rfl
  · rename_i h
    rw [BitVec.slt_iff_toInt_lt] at h
    exact BitVec.eq_of_toInt_eq (by omega)

/-- The number of a position, as a signed word. -/
theorem toInt_number (j : Fin 1024) : (BitVec.ofNat 32 j.val).toInt = j.val := by
  have := j.isLt
  rw [BitVec.toInt_eq_toNat_of_lt (by rw [BitVec.toNat_ofNat]; omega), BitVec.toNat_ofNat]
  omega

/-- The least number among the places that attain the maximum is the first one's. -/
theorem First.fold_min (h : First s k) :
    Finset.univ.fold IntOp.minsi 2147483647#32 (fun j => if s j = s k then BitVec.ofNat 32 j.val else 1024#32) = BitVec.ofNat 32 k.val := by
  have hk := k.isLt
  rw [fold_minsi _ _ k]
  · rw [if_pos rfl]
  · rw [if_pos rfl, toInt_number]
    show (k.val : ℤ) ≤ 2147483647
    omega
  · intro j
    rw [if_pos rfl, toInt_number]
    split
    · rename_i he
      rw [toInt_number]
      have : ¬ j < k := fun hj => absurd he ((h j).2 hj).ne
      have := Fin.not_lt.mp this
      exact_mod_cast this
    · show (k.val : ℤ) ≤ 1024
      omega

end Cert.Proof.Pick

end
-- ==== Proof.TileValue.lean ====
/-
  What the kernel computes of one tile, over the extended reals: at each row of the tile the code is the least position at
  which the row's score against the codebook is greatest, and the selected row is the codebook's row there, provided no entry
  of the codebook is positive infinity. Both ways through the tile, with a tie and without one, end so.
-/
module

public import proofs.«01_k».proof.Proof.Tile
public import proofs.«01_k».proof.Proof.Pick
public import Idealize.ShloMosaic.Lib.Pointwise

@[expose] public section

set_option maxRecDepth 16384

noncomputable section

namespace Cert.Proof.Vq

open Idealize.ShloMosaic Idealize.ShloMosaic.TcCoe
open Cert.KernelIdeal Cert.KernelIdeal.Gen
open Cert.Proof

/-! ## Numbers -/

/-- The word a count is compared with lies below two. -/
theorem threshold_lt : Ideal.ofBits FTy.f32 0x3FC00000#32 < 2 := by
  have h : Ideal.ofBits FTy.f32 0x3FC00000#32 = ((3 / 2 : ℝ) : EReal) := by
    simp [Ideal.ofBits, Ideal.ieee]
    rw [← EReal.coe_mul]
    norm_num
  rw [h, show (2 : EReal) = ((2 : ℝ) : EReal) from rfl, EReal.coe_lt_coe_iff]
  norm_num

/-- A word read as a signed number, made a float. -/
theorem float_of_word {w : ℕ} (b : BitVec w) (a : ℕ) (h : b.toInt = a) :
    (FloatOps.sitofp (F := Ideal) FTy.f32 b : EReal) = ((a : ℝ) : EReal) := by
  show ((b.toInt : ℝ) : EReal) = _
  rw [h, Int.cast_natCast]

/-- A small natural number, made a word. -/
theorem word_of_float (a : ℕ) (h : a < 32) : (FloatOps.fptosi (F := Ideal) (φ := FTy.f32) 32 ((a : ℝ) : EReal)) = BitVec.ofNat 32 a := by
  show BitVec.ofInt 32 (Ideal.toIntClamped _ _ ((a : ℝ) : EReal)) = _
  show BitVec.ofInt 32 (max _ (min _ (if (0 : ℝ) ≤ (a : ℝ) then ⌊(a : ℝ)⌋ else ⌈(a : ℝ)⌉))) = _
  rw [if_pos (Nat.cast_nonneg a), Int.floor_natCast, min_eq_right (by norm_num; omega), max_eq_right (by norm_num), BitVec.ofInt_natCast]

/-- Two digits to the base 32 put together. -/
theorem digits (k : Fin 1024) :
    IntOp.addi (IntOp.muli 32#32 (BitVec.ofNat 32 (k.val / 32))) (BitVec.ofNat 32 (k.val % 32)) = BitVec.ofNat 32 k.val := by
  revert k; decide +kernel

/-- An extended real other than positive infinity, and what is left of it after itself. -/
theorem add_rest {a : EReal} (h : a ≠ ⊤) : a + (a - a) = a := by
  induction a using EReal.rec with
  | bot => rfl
  | coe r => rw [← EReal.coe_sub, ← EReal.coe_add, sub_self, add_zero]
  | top => exact absurd rfl h

/-! ## The tables -/

/-- The normalized table's entries. -/
theorem unitTable_apply (e : Vec Ideal S1024x64 .f32) (k : Fin 1024) (d : Fin 64) :
    unitTable e (ix2 k d) = Pick.unit (fun i => e (ix2 k i)) d := by
  unfold unitTable Pick.unit
  pointwise [k0_pay9, k0_pay8]

/-- The leading table begins with the codebook, -/
theorem leadTable_book (e : Vec Ideal S1024x64 .f32) (k : Fin 1024) (d : Fin 64) (h : d.val < 128) :
    leadTable e (ix2 k ⟨d.val, h⟩) = e (ix2 k d) := by
  unfold leadTable
  pointwise [k0_pay1, k0_pay10, k0_pay8, k0_pay11]

/-- then come the row's number divided by 32, -/
theorem leadTable_high (e : Vec Ideal S1024x64 .f32) (k : Fin 1024) :
    leadTable e (ix2 k 64) = (((k.val / 32 : ℕ) : ℝ) : EReal) := by
  unfold leadTable
  pointwise [k0_pay1, k0_pay10, k0_pay8, k0_pay11]
  refine float_of_word _ _ ?_
  revert k; decide +kernel

/-- the remainder, -/
theorem leadTable_low (e : Vec Ideal S1024x64 .f32) (k : Fin 1024) :
    leadTable e (ix2 k 65) = (((k.val % 32 : ℕ) : ℝ) : EReal) := by
  unfold leadTable
  pointwise [k0_pay1, k0_pay10, k0_pay8, k0_pay11]
  refine (if_neg (by decide)).trans (float_of_word _ _ ?_)
  revert k; decide +kernel

/-- and a one. -/
theorem leadTable_one (e : Vec Ideal S1024x64 .f32) (k : Fin 1024) : leadTable e (ix2 k 66) = (1 : EReal) := by
  unfold leadTable
  pointwise [k0_pay1, k0_pay10, k0_pay8, k0_pay11]
  exact (if_neg (by decide)).trans (if_neg (by decide))

/-- The rest of the codebook. -/
theorem restTable_apply (e : Vec Ideal S1024x64 .f32) (k : Fin 1024) (d : Fin 64) :
    restTable e (ix2 k d) = (e (ix2 k d) - e (ix2 k d) : EReal) := by
  unfold restTable
  pointwise [k0_pay2, k0_pay10, k0_pay8]

/-! ## The stages of one tile -/

/-- A row of a tile scored against the codebook. -/
abbrev rowScore (x : Vec Ideal S1x1024x64 .f32) (e : Vec Ideal S1024x64 .f32) (n : Fin 1024) : Fin 1024 → EReal :=
  Pick.score (fun d => x (ix3 0 n d)) (fun k d => e (ix2 k d))

variable (x : Vec Ideal S1x1024x64 .f32) (e : Vec Ideal S1024x64 .f32)

/-- The products of the tile's rows with the normalized table are the scores. -/
theorem scores_apply (n k : Fin 1024) : k0_pay12 x (unitTable e) (ix2 n k) = rowScore x e n k := by
  pointwise [k0_pay12]
  simp only [unitTable_apply]
  rfl

variable {x e} {n k : Fin 1024}

/-- The largest product of a row is its largest score. -/
theorem greatest_apply (h : Pick.First (rowScore x e n) k) : k0_pay13 x (unitTable e) (ix2 n 0) = rowScore x e n k := by
  pointwise [k0_pay13]
  simp only [scores_apply, Pick.lowest]
  exact h.fold_max

/-- The marks of a row's largest products against the leading table. -/
theorem lead_apply (h : Pick.First (rowScore x e n) k) (w : Vec Ideal S1024x128 .f32) (c : Fin 128) :
    k0_pay15 x (unitTable e) w (ix2 n c) = ∑ j, (if rowScore x e n j = rowScore x e n k then (1 : EReal) else 0) * w (ix2 j c) := by
  pointwise [k0_pay15, k0_pay14]
  simp only [scores_apply, greatest_apply h]

/-- The marks of a row's largest products against the rest of the codebook. -/
theorem rest_apply (h : Pick.First (rowScore x e n) k) (w : Vec Ideal S1024x64 .f32) (c : Fin 64) :
    k0_pay16 x (unitTable e) w (ix2 n c) = ∑ j, (if rowScore x e n j = rowScore x e n k then (1 : EReal) else 0) * w (ix2 j c) := by
  pointwise [k0_pay16, k0_pay14]
  simp only [scores_apply, greatest_apply h]

/-- Without a tie a row attains its largest score once. -/
theorem once (h : Pick.First (rowScore x e n) k) (ht : ¬ tie x (unitTable e) (leadTable e) = 1#1) (j : Fin 1024)
    (hj : rowScore x e n j = rowScore x e n k) : j = k := by
  by_contra hne
  refine ht ?_
  have h2 := Pick.two_le_count hne hj
  have hc : k0_pay15 x (unitTable e) (leadTable e) (ix2 n 66)
      = ∑ i, (if rowScore x e n i = rowScore x e n k then (1 : EReal) else 0) * 1 := by
    rw [lead_apply h]
    simp only [leadTable_one]
  have hm : (2 : EReal) ≤ k0_pay24 (F := Ideal) (k0_pay15 x (unitTable e) (leadTable e)) := by
    pointwise [k0_pay24]
    exact (Finset.le_fold_max _).2 (Or.inr ⟨n, Finset.mem_univ _, hc ▸ h2⟩)
  unfold tie
  show BitVec.ofBool (decide (Ideal.ofBits FTy.f32 0x3FC00000#32 < k0_pay24 (F := Ideal) (k0_pay15 x (unitTable e) (leadTable e)))) = 1#1
  rw [decide_eq_true (lt_of_lt_of_le threshold_lt hm)]
  rfl

/-- The least position read off the marks, by a running minimum. -/
theorem least_apply (h : Pick.First (rowScore x e n) k) :
    k0_pay27 (k0_pay12 x (unitTable e)) (k0_pay13 x (unitTable e)) (ix1 n) = BitVec.ofNat 32 k.val := by
  pointwise [k0_pay27]
  simp only [scores_apply, greatest_apply h]
  exact h.fold_min

/-- One position's mark among all, as a float. -/
theorem mark_apply (j k : Fin 1024) :
    (FloatOps.sitofp (F := Ideal) FTy.f32 (BitVec.setWidth 32 (IntOp.cmpi CmpIPredicate.eq (BitVec.ofNat 32 j.val) (BitVec.ofNat 32 k.val))) : EReal)
      = if j = k then 1 else 0 := by
  by_cases hj : j = k
  · subst hj
    rw [if_pos rfl, float_of_word _ 1]
    · simp
    · simp [IntOp.cmpi]
  · have : ¬ BitVec.ofNat 32 j.val = BitVec.ofNat 32 k.val := fun he => hj (Fin.ext (by
      have := congrArg BitVec.toNat he
      simp only [BitVec.toNat_ofNat] at this
      omega))
    rw [if_neg hj, float_of_word _ 0]
    · simp
    · unfold IntOp.cmpi
      simp only [decide_eq_false this]
      simp [beq_eq_false_iff_ne.mpr this]

/-! ## The tile -/

/-- A ROW'S CODE is the least position at which its score is greatest. -/
theorem codeTile_apply (h : Pick.First (rowScore x e n) k) :
    codeTile x (unitTable e) (leadTable e) (ix2 0 n) = BitVec.ofNat 32 k.val := by
  unfold codeTile
  split
  · rename_i ht
    pointwise [k0_pay28]
    exact least_apply h
  · rename_i ht
    pointwise [k0_pay25]
    rw [lead_apply h, lead_apply h, Pick.sum_at (once h ht), Pick.sum_at (once h ht), leadTable_high, leadTable_low,
      word_of_float _ (by have := k.isLt; omega), word_of_float _ (by omega), digits]

/-- A ROW'S SELECTED ROW is the codebook's row there. -/
theorem rowTile_apply (h : Pick.First (rowScore x e n) k) (d : Fin 64) (he : e (ix2 k d) ≠ (⊤ : EReal)) :
    rowTile x e (unitTable e) (leadTable e) (restTable e) (ix3 0 n d) = e (ix2 k d) := by
  unfold rowTile
  split
  · rename_i ht
    pointwise [k0_pay29]
    rw [least_apply h]
    simp only [mark_apply]
    refine (Finset.sum_eq_single k (fun j _ hj => ?_) (fun hk => absurd (Finset.mem_univ k) hk)).trans ?_
    · rw [if_neg hj, zero_mul]
    · rw [if_pos rfl, one_mul]
  · rename_i ht
    pointwise [k0_pay26]
    rw [lead_apply h, rest_apply h, Pick.sum_at (once h ht), Pick.sum_at (once h ht), leadTable_book, restTable_apply]
    exact add_rest he

end Cert.Proof.Vq

end
-- ==== Proof.KernelValue.lean ====
/-
  The kernel's two result arrays, over the extended reals: at each row of the input the code is the least position at which
  the row's score against the codebook is greatest, and the selected row is the codebook's row there.
-/
module

public import proofs.«01_k».proof.Proof.Run
public import proofs.«01_k».proof.Proof.TileValue
public import Idealize.ShloMosaic.Lib.Pipeline.ValueKit

@[expose] public section

set_option maxRecDepth 16384

noncomputable section

namespace Cert.Proof.Vq

open Idealize.ShloMosaic Idealize.ShloMosaic.TcCoe Idealize.ShloMosaic.Tactic
open Idealize.SL.Sem
open Idealize.ShloMosaic.Pipeline (Dat Cfg Window)
open Cert.KernelIdeal Cert.KernelIdeal.Gen
open Cert.Proof

variable (m : (ℓ : Loc nD τ sig) → Buf (Elt Ideal) ℓ) (ρ : Dev nD → PrngReg)

/-- The input as launched. -/
abbrev argX (c : Dev nD) : Vec Ideal S32x1024x64 .f32 := m ((c : Thread nD τ).loc main_arg0)

/-- The codebook as launched. -/
abbrev argE (c : Dev nD) : Vec Ideal S1x1024x64 .f32 := m ((c : Thread nD τ).loc main_arg1)

theorem index_0 : ∀ t : Fin cfg0.N, win0_0.index t = ![t.val, 0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0, 0] := (by decide +kernel : ∀ t : Fin grid0.N, _)

/-- What the kernel's host part leaves in the codebook's reshaped array. -/
theorem V_book (c : Dev nD) : V m c main_v0 = shapeCast S1024x64 (argE m c) shapeCasts_S1x1024x64_S1024x64 := by
  simp only [V, hostOps0]
  rw [StableHlo.after_cons, StableHlo.after_nil, StableHlo.reshape_result]
  rfl

/-- The codebook's block, at a row and a column. -/
theorem book_apply (c : Dev nD) (k : Fin 1024) (d : Fin 64) : book m c (ix2 k d) = argE m c (ix3 0 k d) := by
  unfold book
  blk_simp [iblk]
  rw [show (win0_1.blk t0_0).view.emb (ix2 k d) = ix2 k d from by blk_ext [index_1], V_book]
  pointwise []

/-- The input's block at a point, at a tile, a row and a column. -/
theorem input_apply (c : Dev nD) (t : Fin cfg0.N) (r : Fin 8) (n : Fin 1024) (d : Fin 64) (h : t.val * 8 + r.val < 32) :
    input m c t (ix3 r n d) = argX m c (ix3 ⟨t.val * 8 + r.val, h⟩ n d) := by
  unfold input
  blk_simp [iblk]
  rw [show (win0_0.blk t).view.emb (ix3 r n d) = ix3 ⟨t.val * 8 + r.val, h⟩ n d from by blk_ext [index_0], V_main_arg0]

/-- A row of the input scored against the codebook. -/
abbrev scoreAt (X : Vec Ideal S32x1024x64 .f32) (E : Vec Ideal S1x1024x64 .f32) (b : Fin 32) (n : Fin 1024) : Fin 1024 → EReal :=
  Pick.score (fun d => X (ix3 b n d)) (fun k d => E (ix3 0 k d))

/-- The score in a tile of a block is the score of the input's row. -/
theorem score_block (c : Dev nD) (t : Fin cfg0.N) (r : Fin 8) (n : Fin 1024) (h : t.val * 8 + r.val < 32) :
    rowScore (slab (input m c t) r) (book m c) n = scoreAt (argX m c) (argE m c) ⟨t.val * 8 + r.val, h⟩ n := by
  unfold rowScore scoreAt
  congr 1
  · funext d
    exact input_apply m c t r n d h
  · funext k d
    exact book_apply m c k d

/-- A code of a tile of a block. -/
theorem code_block (c : Dev nD) (t : Fin cfg0.N) (r : Fin 8) (n k : Fin 1024) (h : t.val * 8 + r.val < 32)
    (hk : Pick.First (scoreAt (argX m c) (argE m c) ⟨t.val * 8 + r.val, h⟩ n) k) :
    codeTile (slab (input m c t) r) (unitTable (book m c)) (leadTable (book m c)) (ValueIdx.ix2 0 n) = BitVec.ofNat 32 k.val := by
  rw [← ix2_eq_valueIdx]
  exact codeTile_apply (by rw [score_block m c t _ _ h]; exact hk)

/-- An entry of the selected rows of a tile of a block. -/
theorem row_block (c : Dev nD) (t : Fin cfg0.N) (r : Fin 8) (n k : Fin 1024) (d : Fin 64) (h : t.val * 8 + r.val < 32)
    (hk : Pick.First (scoreAt (argX m c) (argE m c) ⟨t.val * 8 + r.val, h⟩ n) k) (he : argE m c (ix3 0 k d) ≠ (⊤ : EReal)) :
    rowTile (slab (input m c t) r) (book m c) (unitTable (book m c)) (leadTable (book m c)) (restTable (book m c)) (ValueIdx.ix3 0 n d)
      = argE m c (ix3 0 k d) := by
  rw [← ix3_eq_valueIdx, rowTile_apply (k := k) (by rw [score_block m c t _ _ h]; exact hk) d (by rw [book_apply]; exact he), book_apply]

/-- What each code is to be. -/
abbrev CodeAt (c : Dev nD) (i : S32x1024.Idx) (v : BitVec 32) : Prop :=
  ∀ k, Pick.First (scoreAt (argX m c) (argE m c) (i 0) (i 1)) k → v = BitVec.ofNat 32 k.val

/-- What each entry of the selected rows is to be. -/
abbrev RowAt (c : Dev nD) (i : S32x1024x64.Idx) (v : EReal) : Prop :=
  ∀ k, Pick.First (scoreAt (argX m c) (argE m c) (i 0) (i 1)) k → argE m c (ix3 0 k (i 2)) ≠ (⊤ : EReal) → v = argE m c (ix3 0 k (i 2))

/-- THE CODES: every entry of the codes' array. -/
theorem codes_final (c : Dev nD) (i : S32x1024.Idx) : CodeAt m c i ((dats m 0 c).arrAt 2 cfg0.N i) := by
  refine (dats m 0 c).arrAt_forall_of_covers 2 (CodeAt m c) (by decide +kernel) (fun t _ y k hk => ?_) i
  have ht : t.val < 4 := Nat.lt_of_lt_of_eq t.isLt N_0
  have h : t.val * 8 + (y 0).val < 32 := by have : (y 0).val < 8 := (y 0).isLt; omega
  blk_simp
  rw [after_2]
  have e0 : ((win0_2.blk t).view.emb y) 0 = (⟨t.val * 8 + (y 0).val, h⟩ : Fin 32) := by apply Fin.ext; blk_simp [index_2]; try rfl
  have e1 : ((win0_2.blk t).view.emb y) 1 = (y 1 : Fin 1024) := by apply Fin.ext; blk_simp [index_2]; try rfl
  have hk' : Pick.First (scoreAt (argX m c) (argE m c) ⟨t.val * 8 + (y 0).val, h⟩ (y 1)) k := by rw [← e0, ← e1]; exact hk
  exact code_block m c t (y 0) (y 1) k h hk'

/-- THE SELECTED ROWS: every entry of the rows' array. -/
theorem rows_final (c : Dev nD) (i : S32x1024x64.Idx) : RowAt m c i ((dats m 0 c).arrAt 3 cfg0.N i) := by
  refine (dats m 0 c).arrAt_forall_of_covers 3 (RowAt m c) (by decide +kernel) (fun t _ y k hk he => ?_) i
  have ht : t.val < 4 := Nat.lt_of_lt_of_eq t.isLt N_0
  have h : t.val * 8 + (y 0).val < 32 := by have : (y 0).val < 8 := (y 0).isLt; omega
  have e0 : ((win0_3.blk t).view.emb y) 0 = (⟨t.val * 8 + (y 0).val, h⟩ : Fin 32) := by apply Fin.ext; blk_simp [index_3]; try rfl
  have e1 : ((win0_3.blk t).view.emb y) 1 = (y 1 : Fin 1024) := by apply Fin.ext; blk_simp [index_3]; try rfl
  have e2 : ((win0_3.blk t).view.emb y) 2 = (y 2 : Fin 64) := by apply Fin.ext; blk_simp [index_3]; try rfl
  have hk' : Pick.First (scoreAt (argX m c) (argE m c) ⟨t.val * 8 + (y 0).val, h⟩ (y 1)) k := by rw [← e0, ← e1]; exact hk
  have he' : argE m c (ix3 0 k (y 2)) ≠ (⊤ : EReal) := by rw [← e2]; exact he
  refine Eq.trans ?_ (congrArg (fun d => argE m c (ix3 0 k d)) e2.symm)
  blk_simp
  rw [after_3]
  exact row_block m c t (y 0) (y 1) k (y 2) h hk' he'

/-- THE RUN, AT ITS RESULTS: every code and every entry of the selected rows, the arguments unchanged. -/
theorem run_values : θ_run defs (onTc (τ := τ) (main (F := Ideal))) ⟨m, fun _ => 0, ρ⟩ (fun r => ∀ c : Dev nD,
      (∀ i, RowAt m c i (r.2.mem ((c.tc : Thread nD τ).loc main_v1_1) i))
      ∧ (∀ i, CodeAt m c i (r.2.mem ((c.tc : Thread nD τ).loc main_v1_0) i))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    have h3 : r.2.mem ((c.tc : Thread nD τ).loc main_v1_1) = (dats m 0 c).arrAt 3 cfg0.N := (h.1.1 c).1 3
    have h2 : r.2.mem ((c.tc : Thread nD τ).loc main_v1_0) = (dats m 0 c).arrAt 2 cfg0.N := (h.1.1 c).1 2
    refine ⟨fun i => ?_, fun i => ?_, (h.2.1 c).1, (h.2.1 c).2⟩
    · rw [h3]; exact rows_final m c i
    · rw [h2]; exact codes_final m c i) (θ_run_and (run_main m ρ) (run_frame m ρ))

end Cert.Proof.Vq

end
-- ==== Proof.RefValue.lean ====
/-
  The reference's two results, over the extended reals: at each row of the input the code is the least position at which
  the row's score against the codebook is greatest, and the selected row is the codebook's row there.
-/
module

public import proofs.«01_k».proof.Proof.RefRun
public import proofs.«01_k».proof.Proof.Pick
public import Idealize.ShloMosaic.Lib.Pointwise
public import Idealize.ShloMosaic.PureOps.Reduce

@[expose] public section

set_option maxRecDepth 16384

noncomputable section

namespace Cert.Proof.Ref

open Idealize.ShloMosaic Idealize.ShloMosaic.TcCoe
open Cert.ReferenceIdeal Cert.ReferenceIdeal.Gen
open Cert.Proof

/-! ## The scores -/

/-- The normalized codebook's entries. -/
theorem unitBook_apply (e : Vec Ideal S1x1024x64 .f32) (k : Fin 1024) (d : Fin 64) :
    unitBook e (ix3 0 k d) = Pick.unit (fun i => e (ix3 0 k i)) d := by
  unfold unitBook Pick.unit
  pointwise []

/-- The normalized rows' entries. -/
theorem unitRows_apply (x : Vec Ideal S1x32768x64 .f32) (q : Fin 32768) (d : Fin 64) :
    unitRows x (ix3 0 q d) = Pick.unit (fun i => x (ix3 0 q i)) d := by
  unfold unitRows Pick.unit
  pointwise []

/-- The place of a row in the list of all rows. -/
abbrev place (b : Fin 32) (n : Fin 1024) : Fin 32768 := ⟨b.val * 1024 + n.val, by have := b.isLt; have := n.isLt; omega⟩

/-- The list's entries. -/
theorem rowList_apply (x : Vec Ideal S32x1024x64 .f32) (b : Fin 32) (n : Fin 1024) (d : Fin 64) :
    rowList x (ix3 0 (place b n) d) = x (ix3 b n d) := by
  unfold rowList
  pointwise []
  have hn := n.isLt
  exact congrArg₂ (fun p q => x (ix3 p q d)) (Fin.ext (by show (b.val * 1024 + n.val) / 1024 = b.val; omega))
    (Fin.ext (by show (b.val * 1024 + n.val) % 1024 = n.val; omega))

/-- A row of the input scored against the codebook. -/
abbrev scoreAt (X : Vec Ideal S32x1024x64 .f32) (E : Vec Ideal S1x1024x64 .f32) (b : Fin 32) (n : Fin 1024) : Fin 1024 → EReal :=
  Pick.score (fun d => X (ix3 b n d)) (fun k d => E (ix3 0 k d))

/-- The products of the normalized rows and the normalized codebook are the scores. -/
theorem scores_apply (x : Vec Ideal S32x1024x64 .f32) (e : Vec Ideal S1x1024x64 .f32) (b : Fin 32) (n k : Fin 1024) :
    scores x e (ix3 0 (place b n) k) = scoreAt x e b n k := by
  unfold scores
  pointwise []
  simp only [unitBook_apply, unitRows_apply, rowList_apply]
  rfl

/-! ## The position of a row's maximum -/

/-- The pair of the greatest value and its least position. -/
def winner (s : Fin 1024 → EReal) (k : Fin 1024) : EReal × BitVec 32 := (s k, BitVec.ofNat 32 k.val)

/-- A pair of a lesser value, or of the same value at a later position. -/
def Behind (s : Fin 1024 → EReal) (k : Fin 1024) (p : EReal × BitVec 32) : Prop :=
  p.1 < s k ∨ p.1 = s k ∧ (k.val : ℤ) < p.2.toInt

variable {s : Fin 1024 → EReal} {k : Fin 1024}

/-- Every position's pair is the winner or behind it. -/
theorem behind_or (h : Pick.First s k) (j : Fin 1024) : winner s j = winner s k ∨ Behind s k (winner s j) := by
  rcases lt_trichotomy j k with hlt | he | hgt
  · exact Or.inr (Or.inl ((h j).2 hlt))
  · exact Or.inl (by rw [he])
  · rcases (h j).1.lt_or_eq with hv | hv
    · exact Or.inr (Or.inl hv)
    · refine Or.inr (Or.inr ⟨hv, ?_⟩)
      show (k.val : ℤ) < (BitVec.ofNat 32 j.val).toInt
      rw [Pick.toInt_number]
      exact_mod_cast hgt

/-- The step, read by cases: the first pair where its value is greater, or the same at an earlier position, else the second. -/
theorem step_eq (a b : EReal × BitVec 32) :
    reducer_argmax_f32_i32 (F := Ideal) a b
      = (if b.1 < a.1 then a.1 else b.1, if b.1 < a.1 ∨ (a.1 = b.1 ∧ a.2.toInt < b.2.toInt) then a.2 else b.2) := by
  unfold reducer_argmax_f32_i32
  by_cases h1 : b.1 < a.1 <;> by_cases h2 : a.1 = b.1 <;> by_cases h3 : a.2.toInt < b.2.toInt <;>
    simp [Ideal.cmpf_def, Ideal.cmp, IntOp.cmpi, IntOp.ori, IntOp.andi, Scalar.select, h1, h2, h3, BitVec.slt_eq_decide]

/-- The winner stays in front of any pair. -/
theorem step_winner {p : EReal × BitVec 32} (hp : p = winner s k ∨ Behind s k p) :
    reducer_argmax_f32_i32 (F := Ideal) (winner s k) p = winner s k := by
  rw [step_eq]
  rcases hp with rfl | h | ⟨h, h'⟩
  · simp
  · simp [winner, h]
  · have : (BitVec.ofNat 32 k.val).toInt < p.2.toInt := by rw [Pick.toInt_number]; exact h'
    simp [winner, h, this]

/-- A pair behind gives way to the winner. -/
theorem step_behind {p : EReal × BitVec 32} (hp : Behind s k p) :
    reducer_argmax_f32_i32 (F := Ideal) p (winner s k) = winner s k := by
  rw [step_eq]
  rcases hp with h | ⟨h, h'⟩
  · simp [winner, h.not_gt, h.ne]
  · have : ¬ p.2.toInt < (BitVec.ofNat 32 k.val).toInt := by rw [Pick.toInt_number]; omega
    simp [winner, h, this]

/-- Of two pairs behind, one is kept. -/
theorem step_cases (a b : EReal × BitVec 32) :
    reducer_argmax_f32_i32 (F := Ideal) a b = a ∨ reducer_argmax_f32_i32 (F := Ideal) a b = b := by
  rw [step_eq]
  by_cases h1 : b.1 < a.1
  · left; simp [h1]
  · by_cases h2 : a.1 = b.1 ∧ a.2.toInt < b.2.toInt
    · left; rw [if_neg h1, if_pos (Or.inr h2), ← h2.1]
    · right; rw [if_neg h1, if_neg (by tauto)]

/-- A run over pairs of which each is the winner or behind it, once at the winner, ends there. -/
theorem run_winner (l : List (EReal × BitVec 32)) (hl : ∀ p ∈ l, p = winner s k ∨ Behind s k p) :
    l.foldl (reducer_argmax_f32_i32 (F := Ideal)) (winner s k) = winner s k := by
  induction l with
  | nil => rfl
  | cons p l ih =>
    rw [List.foldl_cons, step_winner (hl p List.mem_cons_self)]
    exact ih fun q hq => hl q (List.mem_cons_of_mem p hq)

/-- Such a run that meets the winner ends there, wherever it starts. -/
theorem run_meets (l : List (EReal × BitVec 32)) (hl : ∀ p ∈ l, p = winner s k ∨ Behind s k p) (hw : winner s k ∈ l)
    (a : EReal × BitVec 32) (ha : a = winner s k ∨ Behind s k a) :
    l.foldl (reducer_argmax_f32_i32 (F := Ideal)) a = winner s k := by
  induction l generalizing a with
  | nil => exact absurd hw List.not_mem_nil
  | cons p l ih =>
    have hl' : ∀ q ∈ l, q = winner s k ∨ Behind s k q := fun q hq => hl q (List.mem_cons_of_mem p hq)
    rw [List.foldl_cons]
    rcases ha with rfl | ha
    · rw [step_winner (hl p List.mem_cons_self)]
      exact run_winner l hl'
    · by_cases hp : p = winner s k
      · rw [hp, step_behind ha]
        exact run_winner l hl'
      · refine ih hl' ((List.mem_cons.mp hw).resolve_left fun h => hp h.symm) _ ?_
        rcases step_cases a p with h | h
        · rw [h]; exact Or.inr ha
        · rw [h]; exact hl p List.mem_cons_self

/-- The pair a run starts from is the winner or behind it. -/
theorem start_behind (h : Pick.First s k) : ((⊥ : EReal), 0#32) = winner s k ∨ Behind s k ((⊥ : EReal), 0#32) := by
  rcases (bot_le : ⊥ ≤ s k).lt_or_eq with hv | hv
  · exact Or.inr (Or.inl hv)
  · refine Or.inl ?_
    have hk : k = 0 := by
      by_contra hne
      have h0 := (h 0).2 (Fin.pos_of_ne_zero hne)
      rw [← hv] at h0
      exact absurd h0 not_lt_bot
    unfold winner
    rw [← hv, hk]
    rfl

/-- The pairs a run goes over: those of the source indices that reduce to a result index. -/
theorem mem_fiber {r t : Shape} {axes : List (Fin r.rank)} {α β : Type} (x : r.Idx → α) (y : r.Idx → β) (h : r.ReducesTo axes t)
    (j : t.Idx) (p : α × β) : p ∈ Host.argReduceFiber x y h j ↔ ∃ i, h.drop i = j ∧ (x i, y i) = p := by
  unfold Host.argReduceFiber
  simp only [List.mem_map, List.mem_filter, List.mem_finRange, true_and, decide_eq_true_eq]
  refine ⟨fun ⟨n, hn, hp⟩ => ⟨_, hn, hp⟩, fun ⟨i, hi, hp⟩ => ⟨r.rowMajor i, ?_, ?_⟩⟩
  · rw [Equiv.symm_apply_apply]; exact hi
  · rw [Equiv.symm_apply_apply]; exact hp

/-- A source index that reduces to a row is that row's, at some position. -/
theorem drop_iff (h : S1x32768x1024.ReducesTo [2] S1x32768) (i : S1x32768x1024.Idx) (q : Fin 32768) :
    h.drop i = ix2 0 q ↔ i = ix3 0 q (i 2 : Fin 1024) := by
  have v1 := Shape.ReducesTo.drop_apply_val h i 1
  constructor
  · intro hd
    rw [hd] at v1
    funext a
    match a with
    | ⟨0, _⟩ => exact Subsingleton.elim (α := Fin 1) _ _
    | ⟨1, _⟩ => exact Fin.ext v1.symm
    | ⟨2, _⟩ => rfl
  · intro hi
    funext b
    match b with
    | ⟨0, _⟩ => exact Subsingleton.elim (α := Fin 1) _ _
    | ⟨1, _⟩ => exact Fin.ext (v1.trans (congrArg (fun f => (f 1).val) hi))

/-- A search for the position of the greatest value, over pairs that are a row's values and positions. -/
theorem search_apply (hk : Pick.First s k) {r t u : Shape} {axes : List (Fin r.rank)} (x : FVec Ideal r .f32) (y : r.Idx → BitVec 32)
    (ix : u.Idx → Ideal .f32) (iy : u.Idx → BitVec 32) (h : r.ReducesTo axes t) (hu : 0 < u.numel) (j : t.Idx)
    (hx : ix (Shape.Idx.first hu) = (⊥ : EReal)) (hy : iy (Shape.Idx.first hu) = 0#32)
    (hrow : ∀ i, h.drop i = j → ∃ c, (x i, y i) = winner s c) (hat : ∃ i, h.drop i = j ∧ (x i, y i) = winner s k) :
    (Host.argReduce (reducer_argmax_f32_i32 (F := Ideal)) x y ix iy h hu j).2 = BitVec.ofNat 32 k.val := by
  rw [Ideal.argReduce_eq_reduce2, Host.reduce2_eq_foldl_fiber, hx, hy, run_meets (s := s) (k := k) _ ?_ ?_ _ (start_behind hk)]
  · rfl
  · intro p hp
    obtain ⟨i, hi, rfl⟩ := (mem_fiber x y h j p).mp hp
    obtain ⟨c, hc⟩ := hrow i hi
    rw [hc]
    exact behind_or hk c
  · exact (mem_fiber x y h j _).mpr hat

/-- The pair at a source index of a row. -/
theorem pair_eq (S : Vec Ideal S1x32768x1024 .f32) (q : Fin 32768) (i : S1x32768x1024.Idx) (hi : i = ix3 0 q (i 2 : Fin 1024)) :
    (S i, iotaInDim S1x32768x1024 32 2 i) = winner (fun j => S (ix3 0 q j)) (i 2 : Fin 1024) :=
  Prod.ext (congrArg S hi) rfl

/-- THE POSITION: where a row's scores are greatest first. -/
theorem best_apply (S : Vec Ideal S1x32768x1024 .f32) (q : Fin 32768) (h : Pick.First (fun j => S (ix3 0 q j)) k) :
    best S (ix2 0 q) = BitVec.ofNat 32 k.val := by
  have hb := congrFun (best_eq S) (ix2 0 q)
  refine hb.symm.trans (search_apply h _ _ _ _ _ _ _ Pick.lowest rfl (fun i hi => ?_) ?_)
  · exact ⟨_, pair_eq S q i ((drop_iff _ i q).mp hi)⟩
  · exact ⟨ix3 0 q k, (drop_iff _ _ q).mpr rfl, pair_eq S q (ix3 0 q k) rfl⟩

/-- The list of positions, as an array of rows. -/
theorem relist (g : Vec Ideal S1x32768 .i32) (b : Fin 32) (n : Fin 1024) :
    shapeCast S32x1024 (shapeCast S1x32x1024 g shapeCasts_S1x32768_S1x32x1024) shapeCasts_S1x32x1024_S32x1024 (ix2 b n)
      = g (ix2 0 (place b n)) := by
  pointwise []

/-- The codes, written out. -/
theorem codes_eq (x : Vec Ideal S32x1024x64 .f32) (e : Vec Ideal S1x1024x64 .f32) :
    codes x e = shapeCast S32x1024 (shapeCast S1x32x1024 (best (scores x e)) shapeCasts_S1x32768_S1x32x1024) shapeCasts_S1x32x1024_S32x1024 := by
  unfold codes; rfl

/-- THE CODES. -/
theorem codes_apply (x : Vec Ideal S32x1024x64 .f32) (e : Vec Ideal S1x1024x64 .f32) (b : Fin 32) (n : Fin 1024)
    (h : Pick.First (scoreAt x e b n) k) : codes x e (ix2 b n) = BitVec.ofNat 32 k.val := by
  have hf : Pick.First (fun j => scores x e (ix3 0 (place b n) j)) k := by
    simp only [scores_apply]
    exact h
  exact (congrFun (codes_eq x e) _).trans ((relist _ b n).trans (best_apply _ _ hf))

/-! ## The lookup -/

/-- The row read at a position of the codebook. -/
theorem gather_apply (e : Vec Ideal S1024x64 .f32) (p : IVec S32x1024x1 32) (b : Fin 32) (n : Fin 1024) (d : Fin 64)
    (h : p (ix3 b n 0) = BitVec.ofNat 32 k.val) :
    Host.gather gather_S1024x64_S32x1024x1_S32x1024x64_2_0_n_n_0_2_164 e p (ix3 b n d) = e (ix2 k d) := by
  unfold Host.gather
  refine congrArg e (funext fun a => Fin.ext ?_)
  show GatherDims.start _ _ p a + GatherDims.batchCoord _ _ a + GatherDims.offCoord _ _ a = _
  rw [GatherDims.batchCoord_eq_zero _ _ _ List.not_mem_nil, Nat.add_zero]
  have hs : ∀ c, GatherDims.siIdx gather_S1024x64_S32x1024x1_S32x1024x64_2_0_n_n_0_2_164 (ix3 b n d) c = ix3 b n 0 := by
    intro c
    funext z
    match z with
    | ⟨0, _⟩ => rfl
    | ⟨1, _⟩ => rfl
    | ⟨2, _⟩ => exact Subsingleton.elim (α := Fin 1) _ _
  match a with
  | ⟨0, _⟩ =>
    rw [GatherDims.offCoord_eq_zero _ _ _ (fun hm => ((GatherDims.mem_sKept _ _).mp hm).1 (List.mem_singleton.mpr rfl)), Nat.add_zero]
    unfold GatherDims.start
    refine (dif_pos (List.mem_singleton.mpr rfl)).trans ?_
    rw [hs, h, Pick.toInt_number]
    have := k.isLt
    show min k.val (1024 - 1) = k.val
    omega
  | ⟨1, _⟩ =>
    unfold GatherDims.start GatherDims.offCoord
    exact (congrArg₂ (· + ·) (dif_neg (by show ¬ (1 : Fin 2) ∈ ([0] : List (Fin 2)); decide))
      (dif_pos ((GatherDims.mem_sKept _ _).mpr ⟨by show ¬ (1 : Fin 2) ∈ ([0] : List (Fin 2)); decide, List.not_mem_nil⟩))).trans (Nat.zero_add _)

/-- A row's number is not wrapped. -/
theorem wrapped_apply (i : Vec Ideal S32x1024 .i32) (b : Fin 32) (n : Fin 1024) (h : i (ix2 b n) = BitVec.ofNat 32 k.val) :
    wrapped (F := Ideal) i (ix3 b n 0) = BitVec.ofNat 32 k.val := by
  unfold wrapped
  pointwise []
  rw [h]
  clear h
  revert k; decide +kernel

/-- A row's number lies in the codebook. -/
theorem inside_apply (p : IVec S32x1024x1 32) (b : Fin 32) (n : Fin 1024) (h : p (ix3 b n 0) = BitVec.ofNat 32 k.val) :
    inside p (ix2 b n) = 1#1 := by
  unfold inside
  pointwise []
  simp only [Finset.univ_unique, Finset.fold_singleton, Fin.default_eq_zero, h]
  clear h
  revert k; decide +kernel

/-- THE SELECTED ROWS. -/
theorem rows_apply (x : Vec Ideal S32x1024x64 .f32) (e : Vec Ideal S1x1024x64 .f32) (b : Fin 32) (n : Fin 1024) (d : Fin 64)
    (h : Pick.First (scoreAt x e b n) k) : rows x e (ix3 b n d) = e (ix3 0 k d) := by
  have hc := codes_apply x e b n h
  unfold rows
  generalize codes x e = i at hc
  unfold take
  pointwise []
  rw [inside_apply _ b n (wrapped_apply i b n hc), gather_apply _ _ b n d (wrapped_apply i b n hc)]
  refine (if_pos rfl).trans ?_
  pointwise []

end Cert.Proof.Ref

end
-- ==== Proof.lean ====
/-
  The claims, assembled: each program's frame, the idealized kernel is the kernel over the extended reals, and, with no
  entry of the codebook at positive infinity, the idealized kernel's results are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_codebook_below_infinity
public import proofs.«01_k».proof.Proof.Run
public import proofs.«01_k».proof.Proof.Same
public import proofs.«01_k».proof.Proof.RefRun
public import proofs.«01_k».proof.Proof.KernelValue
public import proofs.«01_k».proof.Proof.RefValue

@[expose] public section

set_option maxRecDepth 16384

noncomputable section

namespace Cert.Proof

open Idealize.ShloMosaic Idealize.SL.Sem

/-- The kernel's frame: its program is the idealized kernel's, read at float words. -/
theorem kernel_frame : Cert.quiescent_Kernel (hKernel := Cert.Kernel.Gen.facts) := fun m g _ => Same.run_frame m g

/-- The idealized kernel's frame. -/
theorem ideal_frame : Cert.quiescent_KernelIdeal (hKernelIdeal := Cert.KernelIdeal.Gen.facts) := fun m g _ => Vq.run_frame m g

/-- The same under the precondition, which it does not use. -/
theorem ideal_frame_pre : Cert.quiescent_KernelIdeal_pre_codebook_below_infinity (hKernelIdeal := Cert.KernelIdeal.Gen.facts)
    (hPre_codebook_below_infinity := Cert.Pre_codebook_below_infinity.Gen.facts) := fun m g _ => Vq.run_frame m g

/-- The reference's frame. -/
theorem reference_frame : Cert.quiescent_ReferenceIdeal (hReferenceIdeal := Cert.ReferenceIdeal.Gen.facts) := fun m g _ => Ref.run_frame m g

/-- The same under the precondition, which it does not use. -/
theorem reference_frame_pre : Cert.quiescent_ReferenceIdeal_pre_codebook_below_infinity (hReferenceIdeal := Cert.ReferenceIdeal.Gen.facts)
    (hPre_codebook_below_infinity := Cert.Pre_codebook_below_infinity.Gen.facts) := fun m g _ => Ref.run_frame m g

/-- The precondition, at an entry: it is not positive infinity. -/
theorem below_infinity (x : FVec Ideal Cert.Pre_codebook_below_infinity.S32x1024x64 .f32) (e : FVec Ideal Cert.Pre_codebook_below_infinity.S1x1024x64 .f32)
    (h : @Cert.Pre_codebook_below_infinity.fn Cert.Pre_codebook_below_infinity.Gen.facts Ideal _ x e = fun _ => 1#1)
    (i : Cert.Pre_codebook_below_infinity.S1x1024x64.Idx) : e i ≠ (⊤ : EReal) := by
  intro ht
  have hi : BitVec.ofBool (decide (e i < Ideal.ofBits FTy.f32 0x7F800000#32)) = 1#1 := congrFun h i
  rw [ht, decide_eq_false not_top_lt] at hi
  exact absurd hi (by decide)

/-- An index of two axes, by its coordinates. -/
theorem eta2 {n0 n1 : ℕ} (i : (⟨2, ![n0, n1]⟩ : Shape).Idx) : i = ix2 (i 0 : Fin n0) (i 1 : Fin n1) := by
  funext a
  match a with
  | ⟨0, _⟩ => rfl
  | ⟨1, _⟩ => rfl

/-- An index of three axes, by its coordinates. -/
theorem eta3 {n0 n1 n2 : ℕ} (i : (⟨3, ![n0, n1, n2]⟩ : Shape).Idx) : i = ix3 (i 0 : Fin n0) (i 1 : Fin n1) (i 2 : Fin n2) := by
  funext a
  match a with
  | ⟨0, _⟩ => rfl
  | ⟨1, _⟩ => rfl
  | ⟨2, _⟩ => rfl

/-- The kernel's codes are the reference's. -/
theorem codes_agree (m : (ℓ : Loc Cert.KernelIdeal.nD Cert.KernelIdeal.τ Cert.KernelIdeal.sig) → Buf (Elt Ideal) ℓ) (c : Dev Cert.KernelIdeal.nD)
    (v : Vec Ideal Cert.KernelIdeal.S32x1024 .i32) (h : ∀ i, Vq.CodeAt m c i (v i)) : v = Ref.codes (Vq.argX m c) (Vq.argE m c) := by
  funext i
  obtain ⟨k, hk⟩ := Pick.exists_first (Vq.scoreAt (Vq.argX m c) (Vq.argE m c) (i 0) (i 1))
  rw [h i k hk]
  exact ((congrArg _ (eta2 i)).trans (Ref.codes_apply _ _ _ _ hk)).symm

/-- The kernel's selected rows are the reference's. -/
theorem rows_agree (m : (ℓ : Loc Cert.KernelIdeal.nD Cert.KernelIdeal.τ Cert.KernelIdeal.sig) → Buf (Elt Ideal) ℓ) (c : Dev Cert.KernelIdeal.nD)
    (hpre : ∀ i, Vq.argE m c i ≠ (⊤ : EReal))
    (v : Vec Ideal Cert.KernelIdeal.S32x1024x64 .f32) (h : ∀ i, Vq.RowAt m c i (v i)) : v = Ref.rows (Vq.argX m c) (Vq.argE m c) := by
  funext i
  obtain ⟨k, hk⟩ := Pick.exists_first (Vq.scoreAt (Vq.argX m c) (Vq.argE m c) (i 0) (i 1))
  rw [h i k hk (hpre _)]
  exact ((congrArg _ (eta3 i)).trans (Ref.rows_apply _ _ _ _ _ hk)).symm

/-- THE VALUES: with no entry of the codebook at positive infinity, both programs end with the same rows and the same codes. -/
theorem values : Cert.algebraic_KernelIdeal_ReferenceIdeal_pre_codebook_below_infinity (hKernelIdeal := Cert.KernelIdeal.Gen.facts)
    (hReferenceIdeal := Cert.ReferenceIdeal.Gen.facts) (hPre_codebook_below_infinity := Cert.Pre_codebook_below_infinity.Gen.facts) := by
  intro m g m' g' hpre hargs
  refine ⟨fun c => Ref.rows (Vq.argX m c) (Vq.argE m c), fun c => Ref.codes (Vq.argX m c) (Vq.argE m c), ?_, ?_⟩
  · refine (θ_run Cert.KernelIdeal.defs _ _).mono (fun r h c => ?_) (Vq.run_values m g)
    obtain ⟨hr, hc, h0, h1⟩ := h c
    exact ⟨rows_agree m c (below_infinity _ _ (hpre c)) _ hr, codes_agree m c _ hc, h0, h1⟩
  · refine (θ_run Cert.ReferenceIdeal.defs _ _).mono (fun r h c => ?_) (Ref.run m' g')
    obtain ⟨hr, hc, h0, h1⟩ := h c
    refine ⟨hr.trans ?_, hc.trans ?_, h0, h1⟩
    · rw [(hargs c).1, (hargs c).2]
    · rw [(hargs c).1, (hargs c).2]

theorem claim : Cert.Claim := ⟨Cert.Kernel.Gen.facts, Cert.KernelIdeal.Gen.facts, Cert.ReferenceIdeal.Gen.facts,
  Cert.Pre_codebook_below_infinity.Gen.facts, kernel_frame, ideal_frame, ideal_frame_pre, reference_frame, reference_frame_pre, trivial, values⟩

end Cert.Proof

end
